-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v108)) (v2 : (c : Dev Cert.KernelIdeal.nD) → Buf (Elt Ideal) ((c.tc : Thread Cert.KernelIdeal.nD Cert.KernelIdeal.τ).loc Cert.KernelIdeal.main_v109)) (v3 : (c : Dev Cert.KernelIdeal.nD) → Buf (Elt Ideal) ((c.tc : Thread Cert.KernelIdeal.nD Cert.KernelIdeal.τ).loc Cert.KernelIdeal.main_v94)) (v4 : (c : Dev Cert.KernelIdeal.nD) → Buf (Elt Ideal) ((c.tc : Thread Cert.KernelIdeal.nD Cert.KernelIdeal.τ).loc Cert.KernelIdeal.main_v110)) (v5 : (c : Dev Cert.KernelIdeal.nD) → Buf (Elt Ideal) ((c.tc : Thread Cert.KernelIdeal.nD Cert.KernelIdeal.τ).loc Cert.KernelIdeal.main_v111)) (v6 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v108) = v1 c
          ∧ r.2.mem ((c.tc : Thread Cert.KernelIdeal.nD Cert.KernelIdeal.τ).loc Cert.KernelIdeal.main_v109) = v2 c
          ∧ r.2.mem ((c.tc : Thread Cert.KernelIdeal.nD Cert.KernelIdeal.τ).loc Cert.KernelIdeal.main_v94) = v3 c
          ∧ r.2.mem ((c.tc : Thread Cert.KernelIdeal.nD Cert.KernelIdeal.τ).loc Cert.KernelIdeal.main_v110) = v4 c
          ∧ r.2.mem ((c.tc : Thread Cert.KernelIdeal.nD Cert.KernelIdeal.τ).loc Cert.KernelIdeal.main_v111) = v5 c
          ∧ r.2.mem ((c.tc : Thread Cert.KernelIdeal.nD Cert.KernelIdeal.τ).loc Cert.KernelIdeal.main_v100) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v37_0) = v1 c
          ∧ r.2.mem ((c.tc : Thread Cert.ReferenceIdeal.nD Cert.ReferenceIdeal.τ).loc Cert.ReferenceIdeal.main_v37_1) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v37_3) = v4 c
          ∧ r.2.mem ((c.tc : Thread Cert.ReferenceIdeal.nD Cert.ReferenceIdeal.τ).loc Cert.ReferenceIdeal.main_v37_4) = v5 c
          ∧ r.2.mem ((c.tc : Thread Cert.ReferenceIdeal.nD Cert.ReferenceIdeal.τ).loc Cert.ReferenceIdeal.main_v36) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x768x3072 : Shape := ⟨3, ![24, 768, 3072]⟩
abbrev S24x768x8192 : Shape := ⟨3, ![24, 768, 8192]⟩
abbrev S16 : Shape := ⟨1, ![16]⟩
abbrev S18432x3072 : Shape := ⟨2, ![18432, 3072]⟩
abbrev S18432x8192 : Shape := ⟨2, ![18432, 8192]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x16 : Shape := ⟨2, ![1, 16]⟩
abbrev S16x16 : Shape := ⟨2, ![16, 16]⟩
abbrev S8x128 : Shape := ⟨2, ![8, 128]⟩
abbrev S1024x1024 : Shape := ⟨2, ![1024, 1024]⟩
abbrev S256x1024 : Shape := ⟨2, ![256, 1024]⟩
abbrev S32x8x1024 : Shape := ⟨3, ![32, 8, 1024]⟩
abbrev S8x1024 : Shape := ⟨2, ![8, 1024]⟩
abbrev S1 : Shape := ⟨1, ![1]⟩
abbrev S72x16x4x4x8192 : Shape := ⟨5, ![72, 16, 4, 4, 8192]⟩
abbrev S72x4x16x4x8192 : Shape := ⟨5, ![72, 4, 16, 4, 8192]⟩
abbrev S9216x3072 : Shape := ⟨2, ![9216, 3072]⟩
abbrev S1152x3072 : Shape := ⟨2, ![1152, 3072]⟩
abbrev S256x512 : Shape := ⟨2, ![256, 512]⟩
abbrev S128x512 : Shape := ⟨2, ![128, 512]⟩
abbrev S16x512 : Shape := ⟨2, ![16, 512]⟩
abbrev S16x16x512 : Shape := ⟨3, ![16, 16, 512]⟩
abbrev S1x16x512 : Shape := ⟨3, ![1, 16, 512]⟩
abbrev S16x1x512 : Shape := ⟨3, ![16, 1, 512]⟩
abbrev S16x2x512 : Shape := ⟨3, ![16, 2, 512]⟩
abbrev S32x512 : Shape := ⟨2, ![32, 512]⟩
abbrev S9216x8192 : Shape := ⟨2, ![9216, 8192]⟩
abbrev S1152x8192 : Shape := ⟨2, ![1152, 8192]⟩
abbrev S64x512 : Shape := ⟨2, ![64, 512]⟩
abbrev S8192x3072 : Shape := ⟨2, ![8192, 3072]⟩
abbrev S768x1024 : Shape := ⟨2, ![768, 1024]⟩
abbrev S768x3072 : Shape := ⟨2, ![768, 3072]⟩
abbrev S1024x3072 : Shape := ⟨2, ![1024, 3072]⟩
abbrev S24x384x3072 : Shape := ⟨3, ![24, 384, 3072]⟩
abbrev S24x48x3072 : Shape := ⟨3, ![24, 48, 3072]⟩
abbrev S24x384x8192 : Shape := ⟨3, ![24, 384, 8192]⟩
abbrev S24x48x8192 : Shape := ⟨3, ![24, 48, 8192]⟩

abbrev nBuf : Space → Nat
  | .hbm => 339
  | .vmem => 34
  | .smem => 3
  | _ => 0

abbrev hbmTy0_0 (i : Nat) : BufTy := match i % 128 with
  | 0 => ⟨S24x768x3072, .bf16⟩
  | 1 => ⟨S24x768x8192, .bf16⟩
  | 2 => ⟨S16, .f32⟩
  | 3 => ⟨S24x768x8192, .i8⟩
  | 4 => ⟨S18432x3072, .bf16⟩
  | 5 => ⟨S18432x8192, .bf16⟩
  | 6 => ⟨S18432x8192, .i8⟩
  | 7 => ⟨S256, .i32⟩
  | 8 => ⟨S256, .i32⟩
  | 9 => ⟨S256x1, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S256x1, .i32⟩
  | 17 => ⟨S256x1, .i32⟩
  | 18 => ⟨S_, .i32⟩
  | 19 => ⟨S256x1, .i32⟩
  | 20 => ⟨S256x1, .i1⟩
  | 21 => ⟨S_, .i32⟩
  | 22 => ⟨S256x1, .i32⟩
  | 23 => ⟨S256x1, .i1⟩
  | 24 => ⟨S_, .i32⟩
  | 25 => ⟨S_, .i1⟩
  | 26 => ⟨S256x1, .i1⟩
  | 27 => ⟨S256x1, .i1⟩
  | 28 => ⟨S256x1, .i1⟩
  | 29 => ⟨S256x1, .i32⟩
  | 30 => ⟨S256x1, .i32⟩
  | 31 => ⟨S256x1, .i32⟩
  | 32 => ⟨S1x256, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S1x256, .i32⟩
  | 40 => ⟨S1x256, .i32⟩
  | 41 => ⟨S_, .i32⟩
  | 42 => ⟨S1x256, .i32⟩
  | 43 => ⟨S1x256, .i1⟩
  | 44 => ⟨S_, .i32⟩
  | 45 => ⟨S1x256, .i32⟩
  | 46 => ⟨S1x256, .i1⟩
  | 47 => ⟨S_, .i32⟩
  | 48 => ⟨S_, .i1⟩
  | 49 => ⟨S1x256, .i1⟩
  | 50 => ⟨S1x256, .i1⟩
  | 51 => ⟨S1x256, .i1⟩
  | 52 => ⟨S1x256, .i32⟩
  | 53 => ⟨S1x256, .i32⟩
  | 54 => ⟨S1x256, .i32⟩
  | 55 => ⟨S256x256, .i32⟩
  | 56 => ⟨S256x256, .i32⟩
  | 57 => ⟨S256x256, .i32⟩
  | 58 => ⟨S256x256, .i32⟩
  | 59 => ⟨S_, .i32⟩
  | 60 => ⟨S256x256, .i32⟩
  | 61 => ⟨S256x256, .i32⟩
  | 62 => ⟨S256x256, .f32⟩
  | 63 => ⟨S_, .f32⟩
  | 64 => ⟨S256x256, .f32⟩
  | 65 => ⟨S256x256, .f32⟩
  | 66 => ⟨S_, .f32⟩
  | 67 => ⟨S256x256, .f32⟩
  | 68 => ⟨S256x256, .f32⟩
  | 69 => ⟨S256x1, .i32⟩
  | 70 => ⟨S_, .i32⟩
  | 71 => ⟨S_, .i32⟩
  | 72 => ⟨S256x1, .i32⟩
  | 73 => ⟨S256x1, .i32⟩
  | 74 => ⟨S256x1, .i32⟩
  | 75 => ⟨S_, .i32⟩
  | 76 => ⟨S256x1, .i32⟩
  | 77 => ⟨S256x1, .i1⟩
  | 78 => ⟨S256x1, .i32⟩
  | 79 => ⟨S256x1, .i32⟩
  | 80 => ⟨S_, .i32⟩
  | 81 => ⟨S256x1, .i32⟩
  | 82 => ⟨S256x1, .i1⟩
  | 83 => ⟨S256x1, .i1⟩
  | 84 => ⟨S_, .i32⟩
  | 85 => ⟨S256x1, .i32⟩
  | 86 => ⟨S256x1, .i32⟩
  | 87 => ⟨S256x1, .i32⟩
  | 88 => ⟨S1x256, .i32⟩
  | 89 => ⟨S_, .i32⟩
  | 90 => ⟨S_, .i32⟩
  | 91 => ⟨S1x256, .i32⟩
  | 92 => ⟨S1x256, .i32⟩
  | 93 => ⟨S1x256, .i32⟩
  | 94 => ⟨S_, .i32⟩
  | 95 => ⟨S1x256, .i32⟩
  | 96 => ⟨S1x256, .i1⟩
  | 97 => ⟨S1x256, .i32⟩
  | 98 => ⟨S1x256, .i32⟩
  | 99 => ⟨S_, .i32⟩
  | 100 => ⟨S1x256, .i32⟩
  | 101 => ⟨S1x256, .i1⟩
  | 102 => ⟨S1x256, .i1⟩
  | 103 => ⟨S_, .i32⟩
  | 104 => ⟨S1x256, .i32⟩
  | 105 => ⟨S1x256, .i32⟩
  | 106 => ⟨S1x256, .i32⟩
  | 107 => ⟨S256x256, .i32⟩
  | 108 => ⟨S256x256, .i32⟩
  | 109 => ⟨S256x256, .i1⟩
  | 110 => ⟨S_, .f32⟩
  | 111 => ⟨S_, .f32⟩
  | 112 => ⟨S256x256, .f32⟩
  | 113 => ⟨S256x256, .f32⟩
  | 114 => ⟨S1x16, .f32⟩
  | 115 => ⟨S16x16, .f32⟩
  | 116 => ⟨S256, .f32⟩
  | 117 => ⟨S1x256, .f32⟩
  | 118 => ⟨S256x256, .f32⟩
  | 119 => ⟨S256x256, .f32⟩
  | 120 => ⟨S_, .f32⟩
  | 121 => ⟨S256x256, .f32⟩
  | 122 => ⟨S256x256, .f32⟩
  | 123 => ⟨S_, .i32⟩
  | 124 => ⟨S256, .i32⟩
  | 125 => ⟨S256, .i1⟩
  | 126 => ⟨S_, .i32⟩
  | 127 => ⟨S256, .i32⟩
  | _ => ⟨S24x768x3072, .bf16⟩

abbrev hbmTy0_1 (i : Nat) : BufTy := match i % 128 with
  | 0 => ⟨S256, .i32⟩
  | 1 => ⟨S256, .i32⟩
  | 2 => ⟨S256x1, .i32⟩
  | 3 => ⟨S256x256, .f32⟩
  | 4 => ⟨S256x256, .bf16⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S256, .i32⟩
  | 12 => ⟨S256, .i32⟩
  | 13 => ⟨S_, .i32⟩
  | 14 => ⟨S256, .i32⟩
  | 15 => ⟨S256, .i1⟩
  | 16 => ⟨S_, .i32⟩
  | 17 => ⟨S256, .i32⟩
  | 18 => ⟨S256, .i1⟩
  | 19 => ⟨S_, .i32⟩
  | 20 => ⟨S_, .i1⟩
  | 21 => ⟨S256, .i1⟩
  | 22 => ⟨S256, .i1⟩
  | 23 => ⟨S256, .i1⟩
  | 24 => ⟨S256, .i32⟩
  | 25 => ⟨S256, .i32⟩
  | 26 => ⟨S256, .i32⟩
  | 27 => ⟨S_, .i32⟩
  | 28 => ⟨S256, .i32⟩
  | 29 => ⟨S256, .i32⟩
  | 30 => ⟨S_, .i32⟩
  | 31 => ⟨S_, .i32⟩
  | 32 => ⟨S256, .i32⟩
  | 33 => ⟨S256, .i32⟩
  | 34 => ⟨S256, .i32⟩
  | 35 => ⟨S_, .i32⟩
  | 36 => ⟨S256, .i32⟩
  | 37 => ⟨S256, .i1⟩
  | 38 => ⟨S256, .i32⟩
  | 39 => ⟨S256, .i32⟩
  | 40 => ⟨S_, .i32⟩
  | 41 => ⟨S256, .i32⟩
  | 42 => ⟨S256, .i1⟩
  | 43 => ⟨S256, .i1⟩
  | 44 => ⟨S_, .i32⟩
  | 45 => ⟨S256, .i32⟩
  | 46 => ⟨S256, .i32⟩
  | 47 => ⟨S256, .i32⟩
  | 48 => ⟨S256, .i32⟩
  | 49 => ⟨S256, .i32⟩
  | 50 => ⟨S256x1, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S256x1, .i32⟩
  | 58 => ⟨S256x1, .i32⟩
  | 59 => ⟨S_, .i32⟩
  | 60 => ⟨S256x1, .i32⟩
  | 61 => ⟨S256x1, .i1⟩
  | 62 => ⟨S_, .i32⟩
  | 63 => ⟨S256x1, .i32⟩
  | 64 => ⟨S256x1, .i1⟩
  | 65 => ⟨S_, .i32⟩
  | 66 => ⟨S_, .i1⟩
  | 67 => ⟨S256x1, .i1⟩
  | 68 => ⟨S256x1, .i1⟩
  | 69 => ⟨S256x1, .i1⟩
  | 70 => ⟨S256x1, .i32⟩
  | 71 => ⟨S256x1, .i32⟩
  | 72 => ⟨S256x1, .i32⟩
  | 73 => ⟨S1x256, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S1x256, .i32⟩
  | 81 => ⟨S1x256, .i32⟩
  | 82 => ⟨S_, .i32⟩
  | 83 => ⟨S1x256, .i32⟩
  | 84 => ⟨S1x256, .i1⟩
  | 85 => ⟨S_, .i32⟩
  | 86 => ⟨S1x256, .i32⟩
  | 87 => ⟨S1x256, .i1⟩
  | 88 => ⟨S_, .i32⟩
  | 89 => ⟨S_, .i1⟩
  | 90 => ⟨S1x256, .i1⟩
  | 91 => ⟨S1x256, .i1⟩
  | 92 => ⟨S1x256, .i1⟩
  | 93 => ⟨S1x256, .i32⟩
  | 94 => ⟨S1x256, .i32⟩
  | 95 => ⟨S1x256, .i32⟩
  | 96 => ⟨S256x256, .i32⟩
  | 97 => ⟨S256x256, .i32⟩
  | 98 => ⟨S256x256, .i32⟩
  | 99 => ⟨S256x256, .i32⟩
  | 100 => ⟨S_, .i32⟩
  | 101 => ⟨S256x256, .i32⟩
  | 102 => ⟨S256x256, .i32⟩
  | 103 => ⟨S256x256, .f32⟩
  | 104 => ⟨S_, .f32⟩
  | 105 => ⟨S256x256, .f32⟩
  | 106 => ⟨S256x256, .f32⟩
  | 107 => ⟨S_, .f32⟩
  | 108 => ⟨S256x256, .f32⟩
  | 109 => ⟨S256x256, .f32⟩
  | 110 => ⟨S256x1, .i32⟩
  | 111 => ⟨S_, .i32⟩
  | 112 => ⟨S_, .i32⟩
  | 113 => ⟨S256x1, .i32⟩
  | 114 => ⟨S256x1, .i32⟩
  | 115 => ⟨S256x1, .i32⟩
  | 116 => ⟨S_, .i32⟩
  | 117 => ⟨S256x1, .i32⟩
  | 118 => ⟨S256x1, .i1⟩
  | 119 => ⟨S256x1, .i32⟩
  | 120 => ⟨S256x1, .i32⟩
  | 121 => ⟨S_, .i32⟩
  | 122 => ⟨S256x1, .i32⟩
  | 123 => ⟨S256x1, .i1⟩
  | 124 => ⟨S256x1, .i1⟩
  | 125 => ⟨S_, .i32⟩
  | 126 => ⟨S256x1, .i32⟩
  | 127 => ⟨S256x1, .i32⟩
  | _ => ⟨S24x768x3072, .bf16⟩

abbrev hbmTy0_2 (i : Nat) : BufTy := match i % 128 with
  | 0 => ⟨S256x1, .i32⟩
  | 1 => ⟨S1x256, .i32⟩
  | 2 => ⟨S_, .i32⟩
  | 3 => ⟨S_, .i32⟩
  | 4 => ⟨S1x256, .i32⟩
  | 5 => ⟨S1x256, .i32⟩
  | 6 => ⟨S1x256, .i32⟩
  | 7 => ⟨S_, .i32⟩
  | 8 => ⟨S1x256, .i32⟩
  | 9 => ⟨S1x256, .i1⟩
  | 10 => ⟨S1x256, .i32⟩
  | 11 => ⟨S1x256, .i32⟩
  | 12 => ⟨S_, .i32⟩
  | 13 => ⟨S1x256, .i32⟩
  | 14 => ⟨S1x256, .i1⟩
  | 15 => ⟨S1x256, .i1⟩
  | 16 => ⟨S_, .i32⟩
  | 17 => ⟨S1x256, .i32⟩
  | 18 => ⟨S1x256, .i32⟩
  | 19 => ⟨S1x256, .i32⟩
  | 20 => ⟨S256x256, .i32⟩
  | 21 => ⟨S256x256, .i32⟩
  | 22 => ⟨S256x256, .i1⟩
  | 23 => ⟨S_, .f32⟩
  | 24 => ⟨S_, .f32⟩
  | 25 => ⟨S256x256, .f32⟩
  | 26 => ⟨S256x256, .f32⟩
  | 27 => ⟨S1x16, .f32⟩
  | 28 => ⟨S16x16, .f32⟩
  | 29 => ⟨S256, .f32⟩
  | 30 => ⟨S1x256, .f32⟩
  | 31 => ⟨S256x256, .f32⟩
  | 32 => ⟨S256x256, .f32⟩
  | 33 => ⟨S_, .f32⟩
  | 34 => ⟨S256x256, .f32⟩
  | 35 => ⟨S256x256, .f32⟩
  | 36 => ⟨S_, .i32⟩
  | 37 => ⟨S256, .i32⟩
  | 38 => ⟨S256, .i1⟩
  | 39 => ⟨S_, .i32⟩
  | 40 => ⟨S256, .i32⟩
  | 41 => ⟨S256, .i32⟩
  | 42 => ⟨S256, .i32⟩
  | 43 => ⟨S256x1, .i32⟩
  | 44 => ⟨S256x256, .f32⟩
  | 45 => ⟨S256x256, .bf16⟩
  | 46 => ⟨S8x128, .f32⟩
  | 47 => ⟨S_, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S_, .f32⟩
  | 56 => ⟨S1, .f32⟩
  | 57 => ⟨S8x128, .f32⟩
  | 58 => ⟨S_, .f32⟩
  | 59 => ⟨S_, .f32⟩
  | 60 => ⟨S_, .f32⟩
  | 61 => ⟨S_, .i1⟩
  | 62 => ⟨S_, .f32⟩
  | 63 => ⟨S_, .f32⟩
  | 64 => ⟨S_, .f32⟩
  | 65 => ⟨S_, .f32⟩
  | 66 => ⟨S_, .f32⟩
  | 67 => ⟨S1, .f32⟩
  | 68 => ⟨S72x16x4x4x8192, .i8⟩
  | 69 => ⟨S72x4x16x4x8192, .i8⟩
  | 70 => ⟨S18432x8192, .i8⟩
  | 71 => ⟨S9216x3072, .i8⟩
  | 72 => ⟨S1152x3072, .fp8e4m3⟩
  | 73 => ⟨S18432x3072, .bf16⟩
  | 74 => ⟨S9216x8192, .i8⟩
  | 75 => ⟨S1152x8192, .fp8e4m3⟩
  | 76 => ⟨S18432x8192, .bf16⟩
  | 77 => ⟨S1, .f32⟩
  | 78 => ⟨S8192x3072, .f32⟩
  | 79 => ⟨S24x384x3072, .i8⟩
  | 80 => ⟨S24x48x3072, .fp8e4m3⟩
  | 81 => ⟨S24x384x8192, .i8⟩
  | 82 => ⟨S24x48x8192, .fp8e4m3⟩
  | _ => ⟨S24x768x3072, .bf16⟩

abbrev hbmTy (i : Nat) : BufTy := match i / 128 with
  | 0 => hbmTy0_0 i
  | 1 => hbmTy0_1 i
  | 2 => hbmTy0_2 i
  | _ => ⟨S24x768x3072, .bf16⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S1024x1024, .bf16⟩
  | .local _ .vmem, ⟨2, _⟩ => ⟨S1024x1024, .bf16⟩
  | .local _ .vmem, ⟨3, _⟩ => ⟨S8x128, .f32⟩
  | .local _ .vmem, ⟨4, _⟩ => ⟨S256x256, .bf16⟩
  | .local _ .vmem, ⟨5, _⟩ => ⟨S1024x1024, .bf16⟩
  | .local _ .vmem, ⟨6, _⟩ => ⟨S1024x1024, .bf16⟩
  | .local _ .vmem, ⟨7, _⟩ => ⟨S8x128, .f32⟩
  | .local _ .vmem, ⟨8, _⟩ => ⟨S256x256, .bf16⟩
  | .local _ .vmem, ⟨9, _⟩ => ⟨S256x512, .bf16⟩
  | .local _ .vmem, ⟨10, _⟩ => ⟨S256x512, .bf16⟩
  | .local _ .vmem, ⟨11, _⟩ => ⟨S128x512, .i8⟩
  | .local _ .vmem, ⟨12, _⟩ => ⟨S128x512, .i8⟩
  | .local _ .vmem, ⟨13, _⟩ => ⟨S16x512, .fp8e4m3⟩
  | .local _ .vmem, ⟨14, _⟩ => ⟨S16x512, .fp8e4m3⟩
  | .local _ .vmem, ⟨15, _⟩ => ⟨S256x512, .bf16⟩
  | .local _ .vmem, ⟨16, _⟩ => ⟨S256x512, .bf16⟩
  | .local _ .vmem, ⟨17, _⟩ => ⟨S256x256, .bf16⟩
  | .local _ .vmem, ⟨18, _⟩ => ⟨S256x512, .bf16⟩
  | .local _ .vmem, ⟨19, _⟩ => ⟨S256x512, .bf16⟩
  | .local _ .vmem, ⟨20, _⟩ => ⟨S256x512, .i8⟩
  | .local _ .vmem, ⟨21, _⟩ => ⟨S256x512, .i8⟩
  | .local _ .vmem, ⟨22, _⟩ => ⟨S128x512, .i8⟩
  | .local _ .vmem, ⟨23, _⟩ => ⟨S128x512, .i8⟩
  | .local _ .vmem, ⟨24, _⟩ => ⟨S16x512, .fp8e4m3⟩
  | .local _ .vmem, ⟨25, _⟩ => ⟨S16x512, .fp8e4m3⟩
  | .local _ .vmem, ⟨26, _⟩ => ⟨S256x512, .bf16⟩
  | .local _ .vmem, ⟨27, _⟩ => ⟨S256x512, .bf16⟩
  | .local _ .vmem, ⟨28, _⟩ => ⟨S768x1024, .bf16⟩
  | .local _ .vmem, ⟨29, _⟩ => ⟨S768x1024, .bf16⟩
  | .local _ .vmem, ⟨30, _⟩ => ⟨S768x3072, .bf16⟩
  | .local _ .vmem, ⟨31, _⟩ => ⟨S768x3072, .bf16⟩
  | .local _ .vmem, ⟨32, _⟩ => ⟨S1024x3072, .f32⟩
  | .local _ .vmem, ⟨33, _⟩ => ⟨S1024x3072, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S24x768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_c_1 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst : Ref sig .tc := ⟨.hbm, 63, rfl⟩
abbrev main_v16 : Ref sig .tc := ⟨.hbm, 64, rfl⟩
abbrev main_v17 : Ref sig .tc := ⟨.hbm, 65, rfl⟩
abbrev main_cst_2 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_c_3 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v21 : Ref sig .tc := ⟨.hbm, 87, rfl⟩
abbrev main_v22 : Ref sig .tc := ⟨.hbm, 88, rfl⟩
abbrev main_c_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_c : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_0 : Ref sig .tc := ⟨.hbm, 103, rfl⟩
abbrev main_call3_v12 : Ref sig .tc := ⟨.hbm, 104, rfl⟩
abbrev main_call3_v13 : Ref sig .tc := ⟨.hbm, 105, rfl⟩
abbrev main_v23 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_cst_5 : Ref sig .tc := ⟨.hbm, 110, rfl⟩
abbrev main_call4_v0 : Ref sig .tc := ⟨.hbm, 111, rfl⟩
abbrev main_call4_v1 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_cst_6 : Ref sig .tc := ⟨.hbm, 120, rfl⟩
abbrev main_v34 : Ref sig .tc := ⟨.hbm, 121, rfl⟩
abbrev main_v35 : Ref sig .tc := ⟨.hbm, 122, rfl⟩
abbrev main_c_7 : Ref sig .tc := ⟨.hbm, 123, rfl⟩
abbrev main_v36 : Ref sig .tc := ⟨.hbm, 124, rfl⟩
abbrev main_v37 : Ref sig .tc := ⟨.hbm, 125, rfl⟩
abbrev main_c_8 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_c_9 : Ref sig .tc := ⟨.hbm, 133, rfl⟩
abbrev main_call5_v0 : Ref sig .tc := ⟨.hbm, 134, rfl⟩
abbrev main_call5_c : Ref sig .tc := ⟨.hbm, 135, rfl⟩
abbrev main_call5_v1 : Ref sig .tc := ⟨.hbm, 136, rfl⟩
abbrev main_call5_c_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_c_1 : Ref sig .tc := ⟨.hbm, 141, rfl⟩
abbrev main_call5_v5 : Ref sig .tc := ⟨.hbm, 142, rfl⟩
abbrev main_call5_v6 : Ref sig .tc := ⟨.hbm, 143, rfl⟩
abbrev main_call5_c_2 : Ref sig .tc := ⟨.hbm, 144, rfl⟩
abbrev main_call5_v7 : Ref sig .tc := ⟨.hbm, 145, rfl⟩
abbrev main_call5_v8 : Ref sig .tc := ⟨.hbm, 146, rfl⟩
abbrev main_call5_c_3 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_v12 : Ref sig .tc := ⟨.hbm, 151, rfl⟩
abbrev main_call5_v13 : Ref sig .tc := ⟨.hbm, 152, rfl⟩
abbrev main_call5_v14 : Ref sig .tc := ⟨.hbm, 153, rfl⟩
abbrev main_v44 : Ref sig .tc := ⟨.hbm, 154, rfl⟩
abbrev main_c_10 : Ref sig .tc := ⟨.hbm, 155, rfl⟩
abbrev main_v45 : Ref sig .tc := ⟨.hbm, 156, rfl⟩
abbrev main_v46 : Ref sig .tc := ⟨.hbm, 157, rfl⟩
abbrev main_c_11 : Ref sig .tc := ⟨.hbm, 158, rfl⟩
abbrev main_call6_v0 : Ref sig .tc := ⟨.hbm, 159, rfl⟩
abbrev main_call6_v1 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_v6 : Ref sig .tc := ⟨.hbm, 165, rfl⟩
abbrev main_call6_v7 : Ref sig .tc := ⟨.hbm, 166, rfl⟩
abbrev main_call6_v8 : Ref sig .tc := ⟨.hbm, 167, rfl⟩
abbrev main_call6_c : Ref sig .tc := ⟨.hbm, 168, rfl⟩
abbrev main_call6_v9 : Ref sig .tc := ⟨.hbm, 169, rfl⟩
abbrev main_call6_v10 : Ref sig .tc := ⟨.hbm, 170, rfl⟩
abbrev main_call6_v11 : Ref sig .tc := ⟨.hbm, 171, rfl⟩
abbrev main_call6_c_0 : Ref sig .tc := ⟨.hbm, 172, rfl⟩
abbrev main_call6_v12 : Ref sig .tc := ⟨.hbm, 173, rfl⟩
abbrev main_call6_v13 : Ref sig .tc := ⟨.hbm, 174, rfl⟩
abbrev main_v47 : Ref sig .tc := ⟨.hbm, 175, rfl⟩
abbrev main_v48 : Ref sig .tc := ⟨.hbm, 176, rfl⟩
abbrev main_v49 : Ref sig .tc := ⟨.hbm, 177, rfl⟩
abbrev main_v50 : Ref sig .tc := ⟨.hbm, 178, rfl⟩
abbrev main_c_12 : Ref sig .tc := ⟨.hbm, 179, rfl⟩
abbrev main_call7_v0 : Ref sig .tc := ⟨.hbm, 180, rfl⟩
abbrev main_call7_c : Ref sig .tc := ⟨.hbm, 181, rfl⟩
abbrev main_call7_v1 : Ref sig .tc := ⟨.hbm, 182, rfl⟩
abbrev main_call7_c_0 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_c_1 : Ref sig .tc := ⟨.hbm, 187, rfl⟩
abbrev main_call7_v5 : Ref sig .tc := ⟨.hbm, 188, rfl⟩
abbrev main_call7_v6 : Ref sig .tc := ⟨.hbm, 189, rfl⟩
abbrev main_call7_c_2 : Ref sig .tc := ⟨.hbm, 190, rfl⟩
abbrev main_call7_v7 : Ref sig .tc := ⟨.hbm, 191, rfl⟩
abbrev main_call7_v8 : Ref sig .tc := ⟨.hbm, 192, rfl⟩
abbrev main_call7_c_3 : Ref sig .tc := ⟨.hbm, 193, rfl⟩
abbrev main_call7_v9 : Ref sig .tc := ⟨.hbm, 194, rfl⟩
abbrev main_call7_v10 : Ref sig .tc := ⟨.hbm, 195, rfl⟩
abbrev main_call7_v11 : Ref sig .tc := ⟨.hbm, 196, rfl⟩
abbrev main_call7_v12 : Ref sig .tc := ⟨.hbm, 197, rfl⟩
abbrev main_call7_v13 : Ref sig .tc := ⟨.hbm, 198, rfl⟩
abbrev main_call7_v14 : Ref sig .tc := ⟨.hbm, 199, rfl⟩
abbrev main_v51 : Ref sig .tc := ⟨.hbm, 200, rfl⟩
abbrev main_v52 : Ref sig .tc := ⟨.hbm, 201, rfl⟩
abbrev main_c_13 : Ref sig .tc := ⟨.hbm, 202, rfl⟩
abbrev main_call8_v0 : Ref sig .tc := ⟨.hbm, 203, rfl⟩
abbrev main_call8_c : Ref sig .tc := ⟨.hbm, 204, rfl⟩
abbrev main_call8_v1 : Ref sig .tc := ⟨.hbm, 205, rfl⟩
abbrev main_call8_c_0 : Ref sig .tc := ⟨.hbm, 206, rfl⟩
abbrev main_call8_v2 : Ref sig .tc := ⟨.hbm, 207, rfl⟩
abbrev main_call8_v3 : Ref sig .tc := ⟨.hbm, 208, rfl⟩
abbrev main_call8_v4 : Ref sig .tc := ⟨.hbm, 209, rfl⟩
abbrev main_call8_c_1 : Ref sig .tc := ⟨.hbm, 210, rfl⟩
abbrev main_call8_v5 : Ref sig .tc := ⟨.hbm, 211, rfl⟩
abbrev main_call8_v6 : Ref sig .tc := ⟨.hbm, 212, rfl⟩
abbrev main_call8_c_2 : Ref sig .tc := ⟨.hbm, 213, rfl⟩
abbrev main_call8_v7 : Ref sig .tc := ⟨.hbm, 214, rfl⟩
abbrev main_call8_v8 : Ref sig .tc := ⟨.hbm, 215, rfl⟩
abbrev main_call8_c_3 : Ref sig .tc := ⟨.hbm, 216, rfl⟩
abbrev main_call8_v9 : Ref sig .tc := ⟨.hbm, 217, rfl⟩
abbrev main_call8_v10 : Ref sig .tc := ⟨.hbm, 218, rfl⟩
abbrev main_call8_v11 : Ref sig .tc := ⟨.hbm, 219, rfl⟩
abbrev main_call8_v12 : Ref sig .tc := ⟨.hbm, 220, rfl⟩
abbrev main_call8_v13 : Ref sig .tc := ⟨.hbm, 221, rfl⟩
abbrev main_call8_v14 : Ref sig .tc := ⟨.hbm, 222, rfl⟩
abbrev main_v53 : Ref sig .tc := ⟨.hbm, 223, rfl⟩
abbrev main_v54 : Ref sig .tc := ⟨.hbm, 224, rfl⟩
abbrev main_v55 : Ref sig .tc := ⟨.hbm, 225, rfl⟩
abbrev main_v56 : Ref sig .tc := ⟨.hbm, 226, rfl⟩
abbrev main_v57 : Ref sig .tc := ⟨.hbm, 227, rfl⟩
abbrev main_c_14 : Ref sig .tc := ⟨.hbm, 228, rfl⟩
abbrev main_v58 : Ref sig .tc := ⟨.hbm, 229, rfl⟩
abbrev main_v59 : Ref sig .tc := ⟨.hbm, 230, rfl⟩
abbrev main_v60 : Ref sig .tc := ⟨.hbm, 231, rfl⟩
abbrev main_cst_15 : Ref sig .tc := ⟨.hbm, 232, rfl⟩
abbrev main_v61 : Ref sig .tc := ⟨.hbm, 233, rfl⟩
abbrev main_v62 : Ref sig .tc := ⟨.hbm, 234, rfl⟩
abbrev main_cst_16 : Ref sig .tc := ⟨.hbm, 235, rfl⟩
abbrev main_v63 : Ref sig .tc := ⟨.hbm, 236, rfl⟩
abbrev main_v64 : Ref sig .tc := ⟨.hbm, 237, rfl⟩
abbrev main_v65 : Ref sig .tc := ⟨.hbm, 238, rfl⟩
abbrev main_c_17 : Ref sig .tc := ⟨.hbm, 239, rfl⟩
abbrev main_call9_v0 : Ref sig .tc := ⟨.hbm, 240, rfl⟩
abbrev main_call9_v1 : Ref sig .tc := ⟨.hbm, 241, rfl⟩
abbrev main_call9_v2 : Ref sig .tc := ⟨.hbm, 242, rfl⟩
abbrev main_call9_v3 : Ref sig .tc := ⟨.hbm, 243, rfl⟩
abbrev main_call9_v4 : Ref sig .tc := ⟨.hbm, 244, rfl⟩
abbrev main_call9_v5 : Ref sig .tc := ⟨.hbm, 245, rfl⟩
abbrev main_call9_v6 : Ref sig .tc := ⟨.hbm, 246, rfl⟩
abbrev main_call9_v7 : Ref sig .tc := ⟨.hbm, 247, rfl⟩
abbrev main_call9_v8 : Ref sig .tc := ⟨.hbm, 248, rfl⟩
abbrev main_call9_c : Ref sig .tc := ⟨.hbm, 249, rfl⟩
abbrev main_call9_v9 : Ref sig .tc := ⟨.hbm, 250, rfl⟩
abbrev main_call9_v10 : Ref sig .tc := ⟨.hbm, 251, rfl⟩
abbrev main_call9_v11 : Ref sig .tc := ⟨.hbm, 252, rfl⟩
abbrev main_call9_c_0 : Ref sig .tc := ⟨.hbm, 253, rfl⟩
abbrev main_call9_v12 : Ref sig .tc := ⟨.hbm, 254, rfl⟩
abbrev main_call9_v13 : Ref sig .tc := ⟨.hbm, 255, rfl⟩
abbrev main_v66 : Ref sig .tc := ⟨.hbm, 256, rfl⟩
abbrev main_v67 : Ref sig .tc := ⟨.hbm, 257, rfl⟩
abbrev main_c_18 : Ref sig .tc := ⟨.hbm, 258, rfl⟩
abbrev main_call10_v0 : Ref sig .tc := ⟨.hbm, 259, rfl⟩
abbrev main_call10_v1 : Ref sig .tc := ⟨.hbm, 260, rfl⟩
abbrev main_call10_v2 : Ref sig .tc := ⟨.hbm, 261, rfl⟩
abbrev main_call10_v3 : Ref sig .tc := ⟨.hbm, 262, rfl⟩
abbrev main_call10_v4 : Ref sig .tc := ⟨.hbm, 263, rfl⟩
abbrev main_call10_v5 : Ref sig .tc := ⟨.hbm, 264, rfl⟩
abbrev main_call10_v6 : Ref sig .tc := ⟨.hbm, 265, rfl⟩
abbrev main_call10_v7 : Ref sig .tc := ⟨.hbm, 266, rfl⟩
abbrev main_call10_v8 : Ref sig .tc := ⟨.hbm, 267, rfl⟩
abbrev main_call10_c : Ref sig .tc := ⟨.hbm, 268, rfl⟩
abbrev main_call10_v9 : Ref sig .tc := ⟨.hbm, 269, rfl⟩
abbrev main_call10_v10 : Ref sig .tc := ⟨.hbm, 270, rfl⟩
abbrev main_call10_v11 : Ref sig .tc := ⟨.hbm, 271, rfl⟩
abbrev main_call10_c_0 : Ref sig .tc := ⟨.hbm, 272, rfl⟩
abbrev main_call10_v12 : Ref sig .tc := ⟨.hbm, 273, rfl⟩
abbrev main_call10_v13 : Ref sig .tc := ⟨.hbm, 274, rfl⟩
abbrev main_v68 : Ref sig .tc := ⟨.hbm, 275, rfl⟩
abbrev main_v69 : Ref sig .tc := ⟨.hbm, 276, rfl⟩
abbrev main_v70 : Ref sig .tc := ⟨.hbm, 277, rfl⟩
abbrev main_v71 : Ref sig .tc := ⟨.hbm, 278, rfl⟩
abbrev main_cst_19 : Ref sig .tc := ⟨.hbm, 279, rfl⟩
abbrev main_call11_v0 : Ref sig .tc := ⟨.hbm, 280, rfl⟩
abbrev main_call11_v1 : Ref sig .tc := ⟨.hbm, 281, rfl⟩
abbrev main_v72 : Ref sig .tc := ⟨.hbm, 282, rfl⟩
abbrev main_v73 : Ref sig .tc := ⟨.hbm, 283, rfl⟩
abbrev main_v74 : Ref sig .tc := ⟨.hbm, 284, rfl⟩
abbrev main_v75 : Ref sig .tc := ⟨.hbm, 285, rfl⟩
abbrev main_v76 : Ref sig .tc := ⟨.hbm, 286, rfl⟩
abbrev main_v77 : Ref sig .tc := ⟨.hbm, 287, rfl⟩
abbrev main_v78 : Ref sig .tc := ⟨.hbm, 288, rfl⟩
abbrev main_cst_20 : Ref sig .tc := ⟨.hbm, 289, rfl⟩
abbrev main_v79 : Ref sig .tc := ⟨.hbm, 290, rfl⟩
abbrev main_v80 : Ref sig .tc := ⟨.hbm, 291, rfl⟩
abbrev main_c_21 : Ref sig .tc := ⟨.hbm, 292, rfl⟩
abbrev main_v81 : Ref sig .tc := ⟨.hbm, 293, rfl⟩
abbrev main_v82 : Ref sig .tc := ⟨.hbm, 294, rfl⟩
abbrev main_c_22 : Ref sig .tc := ⟨.hbm, 295, rfl⟩
abbrev main_v83 : Ref sig .tc := ⟨.hbm, 296, rfl⟩
abbrev main_v84 : Ref sig .tc := ⟨.hbm, 297, rfl⟩
abbrev main_v85 : Ref sig .tc := ⟨.hbm, 298, rfl⟩
abbrev main_v86 : Ref sig .tc := ⟨.hbm, 299, rfl⟩
abbrev main_v87 : Ref sig .tc := ⟨.hbm, 300, rfl⟩
abbrev main_v88 : Ref sig .tc := ⟨.hbm, 301, rfl⟩
abbrev main_v89 : Ref sig .tc := ⟨.hbm, 302, rfl⟩
abbrev main_cst_23 : Ref sig .tc := ⟨.hbm, 303, rfl⟩
abbrev main_v90 : Ref sig .tc := ⟨.hbm, 304, rfl⟩
abbrev main_cst_24 : Ref sig .tc := ⟨.hbm, 305, rfl⟩
abbrev main_v91 : Ref sig .tc := ⟨.hbm, 306, rfl⟩
abbrev main_cst_25 : Ref sig .tc := ⟨.hbm, 307, rfl⟩
abbrev main_v92 : Ref sig .tc := ⟨.hbm, 308, rfl⟩
abbrev main_cst_26 : Ref sig .tc := ⟨.hbm, 309, rfl⟩
abbrev main_call12_v0 : Ref sig .tc := ⟨.hbm, 310, rfl⟩
abbrev main_v93 : Ref sig .tc := ⟨.hbm, 311, rfl⟩
abbrev main_v94 : Ref sig .tc := ⟨.hbm, 312, rfl⟩
abbrev main_v95 : Ref sig .tc := ⟨.hbm, 313, rfl⟩
abbrev main_cst_27 : Ref sig .tc := ⟨.hbm, 314, rfl⟩
abbrev main_v96 : Ref sig .tc := ⟨.hbm, 315, rfl⟩
abbrev main_cst_28 : Ref sig .tc := ⟨.hbm, 316, rfl⟩
abbrev main_v97 : Ref sig .tc := ⟨.hbm, 317, rfl⟩
abbrev main_cst_29 : Ref sig .tc := ⟨.hbm, 318, rfl⟩
abbrev main_v98 : Ref sig .tc := ⟨.hbm, 319, rfl⟩
abbrev main_cst_30 : Ref sig .tc := ⟨.hbm, 320, rfl⟩
abbrev main_call13_v0 : Ref sig .tc := ⟨.hbm, 321, rfl⟩
abbrev main_v99 : Ref sig .tc := ⟨.hbm, 322, rfl⟩
abbrev main_v100 : Ref sig .tc := ⟨.hbm, 323, rfl⟩
abbrev main_v101 : Ref sig .tc := ⟨.hbm, 324, rfl⟩
abbrev main_v102 : Ref sig .tc := ⟨.hbm, 325, rfl⟩
abbrev main_v103 : Ref sig .tc := ⟨.hbm, 326, rfl⟩
abbrev main_v104_0 : Ref sig .tc := ⟨.hbm, 327, rfl⟩
abbrev main_v104_1 : Ref sig .tc := ⟨.hbm, 328, rfl⟩
abbrev main_v104_2 : Ref sig .tc := ⟨.hbm, 329, rfl⟩
abbrev main_v105_0 : Ref sig .tc := ⟨.hbm, 330, rfl⟩
abbrev main_v105_1 : Ref sig .tc := ⟨.hbm, 331, rfl⟩
abbrev main_v105_2 : Ref sig .tc := ⟨.hbm, 332, rfl⟩
abbrev main_v106 : Ref sig .tc := ⟨.hbm, 333, rfl⟩
abbrev main_v107 : Ref sig .tc := ⟨.hbm, 334, rfl⟩
abbrev main_v108 : Ref sig .tc := ⟨.hbm, 335, rfl⟩
abbrev main_v109 : Ref sig .tc := ⟨.hbm, 336, rfl⟩
abbrev main_v110 : Ref sig .tc := ⟨.hbm, 337, rfl⟩
abbrev main_v111 : Ref sig .tc := ⟨.hbm, 338, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg4_1 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc2_stg0_0 : Ref sig .tc := ⟨.smem, 0, rfl⟩
abbrev cc3_stg0_0 : Ref sig .tc := ⟨.smem, 1, rfl⟩
abbrev cc4_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem1_0 : DmaSem sig := 9
abbrev cc2_sem2_0 : DmaSem sig := 10
abbrev cc2_sem2_1 : DmaSem sig := 11
abbrev cc2_sem3_0 : DmaSem sig := 12
abbrev cc2_sem3_1 : DmaSem sig := 13
abbrev cc2_sem4_0 : DmaSem sig := 14
abbrev cc2_sem4_1 : DmaSem sig := 15
abbrev cc2_sem5_0 : DmaSem sig := 16
abbrev cc2_sem5_1 : DmaSem sig := 17
abbrev cc3_sem0_0 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem4_1 : DmaSem sig := 25
abbrev cc3_sem5_0 : DmaSem sig := 26
abbrev cc3_sem5_1 : DmaSem sig := 27
abbrev cc3_sem6_0 : DmaSem sig := 28
abbrev cc3_sem6_1 : DmaSem sig := 29
abbrev cc4_sem0_0 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36

abbrev nD : Nat := 1
abbrev τ : Topo := Topo.v7x

variable {F : FTy → Type} [FloatOps F]

abbrev grid0 : Pipeline.Grid := ⟨2, ![18, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![18, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![72, 6], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S256x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x512 .i8 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S16x512 .fp8e4m3 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S256x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![72, 16], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S256x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S256x512 .i8 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S128x512 .i8 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S16x512 .fp8e4m3 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S256x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨3, ![8, 1, 24], ![false, false, false]⟩

def cc4_transform_0 (i : grid4.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .smem S1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false, false]

abbrev stage4_1 : Fin 2 → Memref sig .tc .vmem S768x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S768x3072 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true]

abbrev stage4_3 : Fin 2 → Memref sig .tc .vmem S1024x3072 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== ReferenceIdeal.lean ====
abbrev S24x768x3072 : Shape := ⟨3, ![24, 768, 3072]⟩
abbrev S24x768x8192 : Shape := ⟨3, ![24, 768, 8192]⟩
abbrev S16 : Shape := ⟨1, ![16]⟩
abbrev S16x16 : Shape := ⟨2, ![16, 16]⟩
abbrev S_ : Shape := ⟨0, ![]⟩
abbrev S1x16 : Shape := ⟨2, ![1, 16]⟩
abbrev S24x48x16x3072 : Shape := ⟨4, ![24, 48, 16, 3072]⟩
abbrev S24x48x3072x16 : Shape := ⟨4, ![24, 48, 3072, 16]⟩
abbrev S24x48x16x8192 : Shape := ⟨4, ![24, 48, 16, 8192]⟩
abbrev S24x48x8192x16 : Shape := ⟨4, ![24, 48, 8192, 16]⟩
abbrev S1 : Shape := ⟨1, ![1]⟩
abbrev S24x384x3072 : Shape := ⟨3, ![24, 384, 3072]⟩
abbrev S24x48x3072 : Shape := ⟨3, ![24, 48, 3072]⟩
abbrev S24x48x8x2x3072 : Shape := ⟨5, ![24, 48, 8, 2, 3072]⟩
abbrev S24x384x8192 : Shape := ⟨3, ![24, 384, 8192]⟩
abbrev S24x48x8192 : Shape := ⟨3, ![24, 48, 8192]⟩
abbrev S24x48x8x2x8192 : Shape := ⟨5, ![24, 48, 8, 2, 8192]⟩
abbrev S24x48x1x3072 : Shape := ⟨4, ![24, 48, 1, 3072]⟩
abbrev S24x384x2x3072 : Shape := ⟨4, ![24, 384, 2, 3072]⟩
abbrev S24x384x1x3072 : Shape := ⟨4, ![24, 384, 1, 3072]⟩
abbrev S24x48x1x8192 : Shape := ⟨4, ![24, 48, 1, 8192]⟩
abbrev S24x384x2x8192 : Shape := ⟨4, ![24, 384, 2, 8192]⟩
abbrev S24x384x1x8192 : Shape := ⟨4, ![24, 384, 1, 8192]⟩
abbrev S24x48x8x3072 : Shape := ⟨4, ![24, 48, 8, 3072]⟩
abbrev S24x48x8x1x3072 : Shape := ⟨5, ![24, 48, 8, 1, 3072]⟩
abbrev S24x48x1x1x3072 : Shape := ⟨5, ![24, 48, 1, 1, 3072]⟩
abbrev S24x48x8x8192 : Shape := ⟨4, ![24, 48, 8, 8192]⟩
abbrev S24x48x8x1x8192 : Shape := ⟨5, ![24, 48, 8, 1, 8192]⟩
abbrev S24x48x1x1x8192 : Shape := ⟨5, ![24, 48, 1, 1, 8192]⟩
abbrev S8192x3072 : Shape := ⟨2, ![8192, 3072]⟩
abbrev S1x1 : Shape := ⟨2, ![1, 1]⟩

abbrev nBuf : Space → Nat
  | .hbm => 69
  | .vmem => 9
  | .smem => 2
  | _ => 0

abbrev bufTy : (tb : Table) → Fin (tcTables nBuf tb) → BufTy
  | .hbm, ⟨0, _⟩ => ⟨S24x768x3072, .bf16⟩
  | .hbm, ⟨1, _⟩ => ⟨S24x768x8192, .bf16⟩
  | .hbm, ⟨2, _⟩ => ⟨S16, .f32⟩
  | .hbm, ⟨3, _⟩ => ⟨S24x768x8192, .i8⟩
  | .hbm, ⟨4, _⟩ => ⟨S16x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S_, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i1⟩
  | .hbm, ⟨14, _⟩ => ⟨S_, .f32⟩
  | .hbm, ⟨15, _⟩ => ⟨S_, .f32⟩
  | .hbm, ⟨16, _⟩ => ⟨S16x16, .f32⟩
  | .hbm, ⟨17, _⟩ => ⟨S16x16, .f32⟩
  | .hbm, ⟨18, _⟩ => ⟨S16x16, .f32⟩
  | .hbm, ⟨19, _⟩ => ⟨S16x16, .f32⟩
  | .hbm, ⟨20, _⟩ => ⟨S1x16, .f32⟩
  | .hbm, ⟨21, _⟩ => ⟨S16x16, .f32⟩
  | .hbm, ⟨22, _⟩ => ⟨S16x16, .f32⟩
  | .hbm, ⟨23, _⟩ => ⟨S_, .f32⟩
  | .hbm, ⟨24, _⟩ => ⟨S16x16, .f32⟩
  | .hbm, ⟨25, _⟩ => ⟨S16x16, .f32⟩
  | .hbm, ⟨26, _⟩ => ⟨S24x768x3072, .f32⟩
  | .hbm, ⟨27, _⟩ => ⟨S24x48x16x3072, .f32⟩
  | .hbm, ⟨28, _⟩ => ⟨S24x48x3072x16, .f32⟩
  | .hbm, ⟨29, _⟩ => ⟨S24x48x16x3072, .f32⟩
  | .hbm, ⟨30, _⟩ => ⟨S24x768x3072, .f32⟩
  | .hbm, ⟨31, _⟩ => ⟨S24x768x8192, .f32⟩
  | .hbm, ⟨32, _⟩ => ⟨S24x48x16x8192, .f32⟩
  | .hbm, ⟨33, _⟩ => ⟨S24x48x8192x16, .f32⟩
  | .hbm, ⟨34, _⟩ => ⟨S24x48x16x8192, .f32⟩
  | .hbm, ⟨35, _⟩ => ⟨S24x768x8192, .f32⟩
  | .hbm, ⟨36, _⟩ => ⟨S24x768x3072, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S24x768x8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S24x384x3072, .i8⟩
  | .hbm, ⟨59, _⟩ => ⟨S24x48x3072, .fp8e4m3⟩
  | .hbm, ⟨60, _⟩ => ⟨S24x48x8x2x3072, .bf16⟩
  | .hbm, ⟨61, _⟩ => ⟨S24x384x8192, .i8⟩
  | .hbm, ⟨62, _⟩ => ⟨S24x48x8192, .fp8e4m3⟩
  | .hbm, ⟨63, _⟩ => ⟨S24x48x8x2x8192, .bf16⟩
  | .hbm, ⟨64, _⟩ => ⟨S8192x3072, .f32⟩
  | .hbm, ⟨65, _⟩ => ⟨S1, .f32⟩
  | .hbm, ⟨66, _⟩ => ⟨S1x1, .f32⟩
  | .hbm, ⟨67, _⟩ => ⟨S8192x3072, .f32⟩
  | .hbm, ⟨68, _⟩ => ⟨S8192x3072, .f32⟩
  | .local _ .vmem, ⟨0, _⟩ => ⟨S24x768x3072, .f32⟩
  | .local _ .vmem, ⟨1, _⟩ => ⟨S24x768x8192, .f32⟩
  | .local _ .vmem, ⟨2, _⟩ => ⟨S24x768x8192, .i8⟩
  | .local _ .vmem, ⟨3, _⟩ => ⟨S24x384x3072, .i8⟩
  | .local _ .vmem, ⟨4, _⟩ => ⟨S24x48x3072, .fp8e4m3⟩
  | .local _ .vmem, ⟨5, _⟩ => ⟨S24x48x8x2x3072, .bf16⟩
  | .local _ .vmem, ⟨6, _⟩ => ⟨S24x384x8192, .i8⟩
  | .local _ .vmem, ⟨7, _⟩ => ⟨S24x48x8192, .fp8e4m3⟩
  | .local _ .vmem, ⟨8, _⟩ => ⟨S24x48x8x2x8192, .bf16⟩
  | .local _ .smem, ⟨0, _⟩ => ⟨S1, .f32⟩
  | .local _ .smem, ⟨1, _⟩ => ⟨S1, .f32⟩
  | _, _ => ⟨S24x768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_cst_10 : Ref sig .tc := ⟨.hbm, 54, rfl⟩
abbrev main_call2_v0 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev main_v37_4 : Ref sig .tc := ⟨.hbm, 62, rfl⟩
abbrev main_v37_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x768x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x768x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x768x8192 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x384x3072 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x48x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x48x8x2x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x384x8192 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x48x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x48x8x2x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRun.lean ====
/- The kernel's run: every buffer ends at the last boundary's contents. -/
module

public import proofs.«01_k».proof.Proof.Gen.KernelIdeal.Frame.Record0
public import proofs.«01_k».proof.Proof.Gen.KernelIdeal.Frame.Record1
public import proofs.«01_k».proof.Proof.Gen.KernelIdeal.Frame.Record2
public import proofs.«01_k».proof.Proof.Gen.KernelIdeal.Frame.Record3
public import proofs.«01_k».proof.Proof.Gen.KernelIdeal.Frame.Record4
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run : θ_run defs (onTc (τ := τ) (main (F := F))) ⟨m, fun _ => 0, ρ⟩ (fun r => ∀ c : Dev nD, ∀ b ∈ Pipeline.ucRefs τ sig,
      r.2.mem (((c : Thread nD τ)).1, b) = W38 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W38 m ρ c b)
    (hfin := fun c s' => by
      iintro ⟨⟨Hh, -⟩, HSI⟩
      unfold StableHlo.held
      imodintro
      iapply (pointsTo_read_all (Pipeline.ucRefs τ sig) (fun b => (((c : Thread nD τ)).1, b)) (W38 m ρ c) s')
      isplitl [Hh] <;> iassumption)
    (hQ := fun s h _ => h)

end Cert.KernelIdeal.Gen

end
-- ==== Proof.Hadamard.lean ====
/- The signs of the 16-point transform, and the block-diagonal matrix made of them. -/
module

public import Idealize.ShloMosaic.Lib.Pipeline.ValueKit

@[expose] public section

set_option maxRecDepth 16384

noncomputable section

namespace Cert.Fp4

open Idealize.ShloMosaic

/-- The parity of the common bits of two indices. -/
def par (a b : Fin 16) : BitVec 32 := IntOp.andi (IntOp.ctpop (IntOp.andi (BitVec.ofNat 32 a.val) (BitVec.ofNat 32 b.val))) 1#32

theorem par_cases : ∀ a b : Fin 16, par a b = 0#32 ∨ par a b = 1#32 := by decide +kernel

/-- The sign at a pair of indices. -/
def hs (a b : Fin 16) : EReal := if par a b = 0#32 then 1 else -1

/-- The remainder as the host computes it. -/
def rem16 (a c : BitVec 32) : BitVec 32 :=
  let d := Scalar.select (IntOp.cmpi CmpIPredicate.eq c 0#32) (1#32) c
  let r := IntOp.remsi ArithUnit.host a d
  Scalar.select (IntOp.andi (IntOp.cmpi CmpIPredicate.ne (IntOp.cmpi CmpIPredicate.slt r 0#32) (IntOp.cmpi CmpIPredicate.slt d 0#32))
    (IntOp.cmpi CmpIPredicate.ne r 0#32)) (IntOp.addi r d) r

theorem rem16_ofNat : ∀ a : Fin 256, rem16 (BitVec.ofNat 32 a.val) 16#32 = BitVec.ofNat 32 (a.val % 16) := by decide +kernel

/-- The quotient as the host computes it. -/
def div16 (a c : BitVec 32) : BitVec 32 :=
  Scalar.select (IntOp.andi (IntOp.cmpi CmpIPredicate.ne ((if a = 0 then 0 else if a.msb = true then -1 else 1 : BitVec 32))
      ((if c = 0 then 0 else if c.msb = true then -1 else 1 : BitVec 32))) (IntOp.cmpi CmpIPredicate.ne (IntOp.remsi ArithUnit.host a c) 0#32))
    (IntOp.subi (IntOp.divsi ArithUnit.host a c) 1#32) (IntOp.divsi ArithUnit.host a c)

theorem div16_ofNat : ∀ a : Fin 256, div16 (BitVec.ofNat 32 a.val) 16#32 = BitVec.ofNat 32 (a.val / 16) := by decide +kernel

/-- Position in a block of 16, and the number of the block. -/
def lo16 (a : Fin 256) : Fin 16 := ⟨a.val % 16, by omega⟩
def hi16 (a : Fin 256) : Fin 16 := ⟨a.val / 16, by omega⟩

/-- The sign as a float: one minus twice the parity. -/
theorem one_sub_two (a b : Fin 16) : (1 : EReal) - Ideal.ofBits .f32 1073741824#32 * FloatOps.sitofp (F := Ideal) .f32 (par a b) = hs a b := by
  have h2 : Ideal.ofBits .f32 1073741824#32 = ((2 : ℝ) : EReal) := by
    simp [Ideal.ofBits, Ideal.ieee, -EReal.coe_mul]; norm_num
  have hs' : FloatOps.sitofp (F := Ideal) .f32 (par a b) = (((par a b).toInt : ℝ) : EReal) := rfl
  rw [h2, hs']
  unfold hs
  rcases par_cases a b with h | h
  · rw [h, if_pos rfl]
    norm_num
  · rw [h, if_neg (by decide)]
    have : (1#32 : BitVec 32).toInt = 1 := by decide
    rw [this, show (1 : EReal) = ((1 : ℝ) : EReal) from rfl, ← EReal.coe_mul, ← EReal.coe_sub, ← EReal.coe_neg]
    norm_num

/-- The block-diagonal matrix of a group: the transform with its signs and its factor in every block of 16. -/
def QN (s : Fin 16 → EReal) (r c : Fin 256) : EReal :=
  (if hi16 r = hi16 c then hs (lo16 r) (lo16 c) else 0) * s (lo16 c) * Ideal.ofBits .f32 1048576000#32

/-- The row of the natural order that stands at a row of the permuted order. -/
def perm16 (r : Fin 256) : Fin 256 := ⟨r.val % 16 * 16 + r.val / 16, by omega⟩

end Cert.Fp4

end
-- ==== Proof.HostK.lean ====
/- The kernel's transform matrices, as the host stretches before the regions leave them. -/
module

public import proofs.«01_k».proof.Proof.KernelRun
public import proofs.«01_k».proof.Proof.Hadamard
public import Idealize.ShloMosaic.Lib.Routing.Ops
public import Idealize.ShloMosaic.Lib.StableHlo.ReadAt

@[expose] public section

set_option maxRecDepth 16384

noncomputable section

namespace Cert.KernelIdeal.Host

open Idealize.ShloMosaic Idealize.ShloMosaic.TcCoe Idealize.ShloMosaic.Tactic
open Cert.KernelIdeal Cert.KernelIdeal.Gen Cert.Fp4

variable (m : (ℓ : Loc nD τ sig) → Buf (Elt Ideal) ℓ) (ρ : Dev nD → PrngReg)

/-- The signs among the arguments. -/
def sg (c : Dev nD) (j : Fin 16) : EReal := (m ((c : Thread nD τ).loc main_arg2) : FVec Ideal S16 .f32) (ix1 j)

theorem cmp_block : ∀ r k : Fin 16, IntOp.cmpi .eq (BitVec.ofNat 32 r.val) (BitVec.ofNat 32 k.val) = if r = k then 1#1 else 0#1 := by decide +kernel

theorem pick_block (r k : Fin 256) (x : EReal) :
    Scalar.select (IntOp.cmpi .eq (BitVec.ofNat 32 (r.val / 16)) (BitVec.ofNat 32 (k.val / 16))) x (id (constant (F := Ideal) S_ .f32 0x00000000#32) ix0) =
      if hi16 r = hi16 k then x else 0 := by
  have h := cmp_block (hi16 r) (hi16 k)
  have h0 : id (constant (F := Ideal) S_ .f32 0x00000000#32) ix0 = (0 : EReal) := by
    show Ideal.ofBits .f32 0x00000000#32 = 0
    simp [Ideal.ofBits, Ideal.ieee]
  rw [show IntOp.cmpi .eq (BitVec.ofNat 32 (r.val / 16)) (BitVec.ofNat 32 (k.val / 16)) = _ from h, h0]
  by_cases hh : hi16 r = hi16 k
  · rw [if_pos hh, if_pos hh]; rfl
  · rw [if_neg hh, if_neg hh]; rfl

/-- Rows picked by a vector of row numbers. -/
theorem pick_rows (f : FVec Ideal S256x256 .f32) (idx : IVec S256 32) (p : Fin 256 → Fin 256)
    (h : ∀ r : Fin 256, idx (ix1 r) = BitVec.ofNat 32 (p r).val) (r k : Fin 256) :
    Host.gather gather_S256x256_S256x1_S256x256_1_0_n_n_0_1_1256 f (broadcastInDim S256x1 ![0] bcast_S256_S256x1_0
      (select (cmpi CmpIPredicate.slt idx (broadcastInDim S256 ![] bcast_S_S256 (constantI S_ 32 0#32)))
        (addi idx (broadcastInDim S256 ![] bcast_S_S256 (constantI S_ 32 256#32))) idx)) (ix2 r k) = f (ix2 (p r) k) := by
  refine Routing.gather_row _ rfl rfl rfl rfl rfl f _ r k (p r) ?_ (by decide)
  pointwise []
  rw [h]
  exact (by decide +kernel : ∀ a : Fin 256, Scalar.select (IntOp.cmpi CmpIPredicate.slt (BitVec.ofNat 32 a.val) 0#32)
    (IntOp.addi (BitVec.ofNat 32 a.val) 256#32) (BitVec.ofNat 32 a.val) = BitVec.ofNat 32 a.val) (p r)

theorem v4 (c : Dev nD) (i : S256.Idx) : (W1 m ρ c main_v4 : IVec S256 32) i = BitVec.ofNat 32 (i 0).val := by
  show (StableHlo.after hostOps0 (W0 m ρ c) main_v4 : IVec S256 32) i = _
  after_reads_at

theorem v5 (c : Dev nD) (i : S256x1.Idx) : (W1 m ρ c main_v5 : IVec S256x1 32) i = BitVec.ofNat 32 (i 0).val := by
  show (StableHlo.after hostOps0 (W0 m ρ c) main_v5 : IVec S256x1 32) i = _
  after_reads_at

theorem c_eq (c : Dev nD) : W1 m ρ c main_c = constantI S_ 32 16#32 := by
  show (StableHlo.after hostOps0 (W0 m ρ c) main_c : IVec S_ 32) = _
  after_reads_simp

theorem v6 (c : Dev nD) (i : S256x1.Idx) : (W2 m ρ c main_v6 : IVec S256x1 32) i = BitVec.ofNat 32 ((i 0).val % 16) := by
  have h := v5 m ρ c i
  have hc := c_eq m ρ c
  show (StableHlo.after hostOps0_1 (W1 m ρ c) main_v6 : IVec S256x1 32) i = _
  generalize W1 m ρ c = W at *
  after_reads_at
  show rem16 (W (Proc.devRef .tc main_v5) i) (W (Proc.devRef .tc main_c) ix0) = _
  rw [h, hc]
  exact rem16_ofNat (i 0)

theorem v4_at2 (c : Dev nD) : (W2 m ρ c main_v4 : IVec S256 32) = W1 m ρ c main_v4 := by
  rw [W2_of m ρ c main_v4 (by decide)]

theorem v4b (c : Dev nD) (i : S256.Idx) : (W2 m ρ c main_v4 : IVec S256 32) i = BitVec.ofNat 32 (i 0).val := by
  rw [v4_at2]; exact v4 m ρ c i

theorem v7 (c : Dev nD) (i : S1x256.Idx) : (W3 m ρ c main_v7 : IVec S1x256 32) i = BitVec.ofNat 32 (i 1).val := by
  show (StableHlo.after hostOps0_2 (W2 m ρ c) main_v7 : IVec S1x256 32) i = _
  have h := v4b m ρ c
  generalize W2 m ρ c = W at *
  after_reads_at
  rw [h]
  rfl

theorem c_0_eq (c : Dev nD) : W3 m ρ c main_c_0 = constantI S_ 32 16#32 := by
  show (StableHlo.after hostOps0_2 (W2 m ρ c) main_c_0 : IVec S_ 32) = _
  after_reads_simp

theorem v8 (c : Dev nD) (i : S1x256.Idx) : (W4 m ρ c main_v8 : IVec S1x256 32) i = BitVec.ofNat 32 ((i 1).val % 16) := by
  have h := v7 m ρ c i
  have hc := c_0_eq m ρ c
  show (StableHlo.after hostOps0_3 (W3 m ρ c) main_v8 : IVec S1x256 32) i = _
  generalize W3 m ρ c = W at *
  after_reads_at
  show rem16 (W (Proc.devRef .tc main_v7) i) (W (Proc.devRef .tc main_c_0) ix0) = _
  rw [h, hc]
  exact rem16_ofNat (i 1)

theorem v6_at4 (c : Dev nD) : (W4 m ρ c main_v6 : IVec S256x1 32) = W2 m ρ c main_v6 := by
  rw [W4_of m ρ c main_v6 (by decide), W3_of m ρ c main_v6 (by decide)]

theorem v4_at4 (c : Dev nD) : (W4 m ρ c main_v4 : IVec S256 32) = W2 m ρ c main_v4 := by
  rw [W4_of m ρ c main_v4 (by decide), W3_of m ρ c main_v4 (by decide)]

theorem v19 (c : Dev nD) (r k : Fin 256) : (W5 m ρ c main_v19 : FVec Ideal S256x256 .f32) (ix2 r k) = hs (lo16 r) (lo16 k) := by
  have h6 := v6 m ρ c (ix2 r 0)
  rw [← v6_at4] at h6
  have h8 := v8 m ρ c (ix2 0 k)
  show (StableHlo.after hostOps0_4 (W4 m ρ c) main_v19 : FVec Ideal S256x256 .f32) (ix2 r k) = _
  generalize W4 m ρ c = W at *
  after_reads_at
  rw [h6, h8]
  exact one_sub_two (lo16 r) (lo16 k)

theorem v20 (c : Dev nD) (i : S256x1.Idx) : (W5 m ρ c main_v20 : IVec S256x1 32) i = BitVec.ofNat 32 (i 0).val := by
  have h := v4b m ρ c
  rw [← v4_at4] at h
  show (StableHlo.after hostOps0_4 (W4 m ρ c) main_v20 : IVec S256x1 32) i = _
  generalize W4 m ρ c = W at *
  after_reads_at
  rw [h]
  rfl

theorem c_3_eq (c : Dev nD) : W5 m ρ c main_c_3 = constantI S_ 32 16#32 := by
  show (StableHlo.after hostOps0_4 (W4 m ρ c) main_c_3 : IVec S_ 32) = _
  after_reads_simp

theorem v21 (c : Dev nD) (i : S256x1.Idx) : (W6 m ρ c main_v21 : IVec S256x1 32) i = BitVec.ofNat 32 ((i 0).val / 16) := by
  have h := v20 m ρ c i
  have hc := c_3_eq m ρ c
  show (StableHlo.after hostOps0_5 (W5 m ρ c) main_v21 : IVec S256x1 32) i = _
  generalize W5 m ρ c = W at *
  after_reads_at
  show div16 (W (Proc.devRef .tc main_v20) i) (W (Proc.devRef .tc main_c_3) ix0) = _
  rw [h, hc]
  exact div16_ofNat (i 0)

theorem v4d (c : Dev nD) (i : S256.Idx) : (W6 m ρ c main_v4 : IVec S256 32) i = BitVec.ofNat 32 (i 0).val := by
  rw [W6_of m ρ c main_v4 (by decide), W5_of m ρ c main_v4 (by decide), v4_at4]
  exact v4b m ρ c i

theorem v22 (c : Dev nD) (i : S1x256.Idx) : (W7 m ρ c main_v22 : IVec S1x256 32) i = BitVec.ofNat 32 (i 1).val := by
  show (StableHlo.after hostOps0_6 (W6 m ρ c) main_v22 : IVec S1x256 32) i = _
  have h := v4d m ρ c
  generalize W6 m ρ c = W at *
  after_reads_at
  rw [h]
  rfl

theorem c_4_eq (c : Dev nD) : W7 m ρ c main_c_4 = constantI S_ 32 16#32 := by
  show (StableHlo.after hostOps0_6 (W6 m ρ c) main_c_4 : IVec S_ 32) = _
  after_reads_simp

theorem v23 (c : Dev nD) (i : S1x256.Idx) : (W8 m ρ c main_v23 : IVec S1x256 32) i = BitVec.ofNat 32 ((i 1).val / 16) := by
  have h := v22 m ρ c i
  have hc := c_4_eq m ρ c
  show (StableHlo.after hostOps0_7 (W7 m ρ c) main_v23 : IVec S1x256 32) i = _
  generalize W7 m ρ c = W at *
  after_reads_at
  show div16 (W (Proc.devRef .tc main_v22) i) (W (Proc.devRef .tc main_c_4) ix0) = _
  rw [h, hc]
  exact div16_ofNat (i 1)

theorem v21_at8 (c : Dev nD) : (W8 m ρ c main_v21 : IVec S256x1 32) = W6 m ρ c main_v21 := by
  rw [W8_of m ρ c main_v21 (by decide), W7_of m ρ c main_v21 (by decide)]

theorem v26 (c : Dev nD) (r k : Fin 256) : (W9 m ρ c main_v26 : IVec S256x256 1) (ix2 r k) = IntOp.cmpi .eq (BitVec.ofNat 32 (r.val / 16)) (BitVec.ofNat 32 (k.val / 16)) := by
  have h1 := v21 m ρ c (ix2 r 0)
  rw [← v21_at8] at h1
  have h2 := v23 m ρ c (ix2 0 k)
  show (StableHlo.after hostOps0_8 (W8 m ρ c) main_v26 : IVec S256x256 1) (ix2 r k) = _
  generalize W8 m ρ c = W at *
  after_reads_at
  rw [h1, h2]
  rfl

theorem cst_5_eq (c : Dev nD) : W9 m ρ c main_cst_5 = constant (F := Ideal) S_ .f32 0x00000000#32 := by
  show (StableHlo.after hostOps0_8 (W8 m ρ c) main_cst_5 : FVec Ideal S_ .f32) = _
  after_reads_simp

theorem v19_at9 (c : Dev nD) : (W9 m ρ c main_v19 : FVec Ideal S256x256 .f32) = W5 m ρ c main_v19 := by
  rw [W9_of m ρ c main_v19 (by decide), W8_of m ρ c main_v19 (by decide), W7_of m ρ c main_v19 (by decide), W6_of m ρ c main_v19 (by decide)]

theorem v27 (c : Dev nD) (r k : Fin 256) : (W10 m ρ c main_v27 : FVec Ideal S256x256 .f32) (ix2 r k) = if hi16 r = hi16 k then hs (lo16 r) (lo16 k) else 0 := by
  have h1 := v26 m ρ c r k
  have h2 := v19 m ρ c r k
  rw [← v19_at9] at h2
  have h3 := cst_5_eq m ρ c
  show (StableHlo.after hostOps0_9 (W9 m ρ c) main_v27 : FVec Ideal S256x256 .f32) (ix2 r k) = _
  generalize W9 m ρ c = W at *
  after_reads_at
  rw [h1, h2, h3]
  exact pick_block r k _

theorem v3 (c : Dev nD) (i : S256.Idx) : (W1 m ρ c main_v3 : IVec S256 32) i = BitVec.ofNat 32 (i 0).val := by
  show (StableHlo.after hostOps0 (W0 m ρ c) main_v3 : IVec S256 32) i = _
  after_reads_at

theorem v3_at10 (c : Dev nD) : (W10 m ρ c main_v3 : IVec S256 32) = W1 m ρ c main_v3 := by
  rw [W10_of m ρ c main_v3 (by decide), W9_of m ρ c main_v3 (by decide), W8_of m ρ c main_v3 (by decide), W7_of m ρ c main_v3 (by decide), W6_of m ρ c main_v3 (by decide), W5_of m ρ c main_v3 (by decide), W4_of m ρ c main_v3 (by decide), W3_of m ρ c main_v3 (by decide), W2_of m ρ c main_v3 (by decide)]

theorem v3_at (c : Dev nD) (r : Fin 256) : (W10 m ρ c main_v3 : IVec S256 32) (ix1 r) = BitVec.ofNat 32 (id r).val := by
  rw [v3_at10]
  exact v3 m ρ c (ix1 r)

theorem v43 (c : Dev nD) (r k : Fin 256) : (W11 m ρ c main_v43 : FVec Ideal S256x256 .bf16) (ix2 r k) = QN (sg m c) (id r) k := by
  have h1 := v27 m ρ c
  have h2 := v3_at m ρ c
  have h3 := W10_args m ρ c main_arg2 (by decide)
  show (StableHlo.after hostOps0_10 (W10 m ρ c) main_v43 : FVec Ideal S256x256 .bf16) (ix2 r k) = _
  unfold sg
  rw [← h3]
  generalize W10 m ρ c = W at *
  after_reads_at
  rw [pick_rows _ (W (Proc.devRef .tc main_v3)) id h2 r k]
  pointwise []
  rw [h1]
  rfl

theorem v3_11 (c : Dev nD) (i : S256.Idx) : (W11 m ρ c main_v3 : IVec S256 32) i = BitVec.ofNat 32 (i 0).val := by
  rw [W11_of m ρ c main_v3 (by decide), v3_at10]
  exact v3 m ρ c i

theorem c_9_eq (c : Dev nD) : W11 m ρ c main_c_9 = constantI S_ 32 16#32 := by
  show (StableHlo.after hostOps0_10 (W10 m ρ c) main_c_9 : IVec S_ 32) = _
  after_reads_simp

theorem v44 (c : Dev nD) (i : S256.Idx) : (W12 m ρ c main_v44 : IVec S256 32) i = BitVec.ofNat 32 ((i 0).val % 16) := by
  have h := v3_11 m ρ c i
  have hc := c_9_eq m ρ c
  show (StableHlo.after hostOps0_11 (W11 m ρ c) main_v44 : IVec S256 32) i = _
  generalize W11 m ρ c = W at *
  after_reads_at
  show rem16 (W (Proc.devRef .tc main_v3) i) (W (Proc.devRef .tc main_c_9) ix0) = _
  rw [h, hc]
  exact rem16_ofNat (i 0)

theorem v46 (c : Dev nD) (i : S256.Idx) : (W13 m ρ c main_v46 : IVec S256 32) i = IntOp.muli (BitVec.ofNat 32 ((i 0).val % 16)) 16#32 := by
  have h := v44 m ρ c i
  show (StableHlo.after hostOps0_12 (W12 m ρ c) main_v46 : IVec S256 32) i = _
  generalize W12 m ρ c = W at *
  after_reads_at
  rw [h]

theorem c_11_eq (c : Dev nD) : W13 m ρ c main_c_11 = constantI S_ 32 16#32 := by
  show (StableHlo.after hostOps0_12 (W12 m ρ c) main_c_11 : IVec S_ 32) = _
  after_reads_simp

theorem v47 (c : Dev nD) (i : S256.Idx) : (W14 m ρ c main_v47 : IVec S256 32) i = BitVec.ofNat 32 ((i 0).val / 16) := by
  have h := v3_11 m ρ c i
  rw [← W12_of m ρ c main_v3 (by decide), ← W13_of m ρ c main_v3 (by decide)] at h
  have hc := c_11_eq m ρ c
  show (StableHlo.after hostOps0_13 (W13 m ρ c) main_v47 : IVec S256 32) i = _
  generalize W13 m ρ c = W at *
  after_reads_at
  show div16 (W (Proc.devRef .tc main_v3) i) (W (Proc.devRef .tc main_c_11) ix0) = _
  rw [h, hc]
  exact div16_ofNat (i 0)

theorem v48 (c : Dev nD) (i : S256.Idx) : (W15 m ρ c main_v48 : IVec S256 32) i = BitVec.ofNat 32 (perm16 (i 0)).val := by
  have h := v47 m ρ c i
  have h' := v46 m ρ c i
  rw [← W14_of m ρ c main_v46 (by decide)] at h'
  show (StableHlo.after hostOps0_14 (W14 m ρ c) main_v48 : IVec S256 32) i = _
  generalize W14 m ρ c = W at *
  after_reads_at
  rw [h, h']
  exact (by decide +kernel : ∀ a : Fin 256, IntOp.addi (IntOp.muli (BitVec.ofNat 32 (a.val % 16)) 16#32) (BitVec.ofNat 32 (a.val / 16)) =
    BitVec.ofNat 32 (perm16 a).val) (i 0)

theorem v48_at24 (c : Dev nD) : (W24 m ρ c main_v48 : IVec S256 32) = W15 m ρ c main_v48 := by
  rw [W24_of m ρ c main_v48 (by decide), W23_of m ρ c main_v48 (by decide), W22_of m ρ c main_v48 (by decide), W21_of m ρ c main_v48 (by decide), W20_of m ρ c main_v48 (by decide), W19_of m ρ c main_v48 (by decide), W18_of m ρ c main_v48 (by decide), W17_of m ρ c main_v48 (by decide), W16_of m ρ c main_v48 (by decide)]

theorem v48_at (c : Dev nD) (r : Fin 256) : (W24 m ρ c main_v48 : IVec S256 32) (ix1 r) = BitVec.ofNat 32 (perm16 r).val := by
  rw [v48_at24]
  exact v48 m ρ c (ix1 r)

theorem v49 (c : Dev nD) (i : S256.Idx) : (W15 m ρ c main_v49 : IVec S256 32) i = BitVec.ofNat 32 (i 0).val := by
  show (StableHlo.after hostOps0_14 (W14 m ρ c) main_v49 : IVec S256 32) i = _
  after_reads_at

theorem v50 (c : Dev nD) (i : S256x1.Idx) : (W15 m ρ c main_v50 : IVec S256x1 32) i = BitVec.ofNat 32 (i 0).val := by
  show (StableHlo.after hostOps0_14 (W14 m ρ c) main_v50 : IVec S256x1 32) i = _
  after_reads_at

theorem c_12_eq (c : Dev nD) : W15 m ρ c main_c_12 = constantI S_ 32 16#32 := by
  show (StableHlo.after hostOps0_14 (W14 m ρ c) main_c_12 : IVec S_ 32) = _
  after_reads_simp

theorem v51 (c : Dev nD) (i : S256x1.Idx) : (W16 m ρ c main_v51 : IVec S256x1 32) i = BitVec.ofNat 32 ((i 0).val % 16) := by
  have h := v50 m ρ c i
  have hc := c_12_eq m ρ c
  show (StableHlo.after hostOps0_15 (W15 m ρ c) main_v51 : IVec S256x1 32) i = _
  generalize W15 m ρ c = W at *
  after_reads_at
  show rem16 (W (Proc.devRef .tc main_v50) i) (W (Proc.devRef .tc main_c_12) ix0) = _
  rw [h, hc]
  exact rem16_ofNat (i 0)

theorem v49_at16 (c : Dev nD) : (W16 m ρ c main_v49 : IVec S256 32) = W15 m ρ c main_v49 := by
  rw [W16_of m ρ c main_v49 (by decide)]

theorem v49b (c : Dev nD) (i : S256.Idx) : (W16 m ρ c main_v49 : IVec S256 32) i = BitVec.ofNat 32 (i 0).val := by
  rw [v49_at16]; exact v49 m ρ c i

theorem v52 (c : Dev nD) (i : S1x256.Idx) : (W17 m ρ c main_v52 : IVec S1x256 32) i = BitVec.ofNat 32 (i 1).val := by
  show (StableHlo.after hostOps0_16 (W16 m ρ c) main_v52 : IVec S1x256 32) i = _
  have h := v49b m ρ c
  generalize W16 m ρ c = W at *
  after_reads_at
  rw [h]
  rfl

theorem c_13_eq (c : Dev nD) : W17 m ρ c main_c_13 = constantI S_ 32 16#32 := by
  show (StableHlo.after hostOps0_16 (W16 m ρ c) main_c_13 : IVec S_ 32) = _
  after_reads_simp

theorem v53 (c : Dev nD) (i : S1x256.Idx) : (W18 m ρ c main_v53 : IVec S1x256 32) i = BitVec.ofNat 32 ((i 1).val % 16) := by
  have h := v52 m ρ c i
  have hc := c_13_eq m ρ c
  show (StableHlo.after hostOps0_17 (W17 m ρ c) main_v53 : IVec S1x256 32) i = _
  generalize W17 m ρ c = W at *
  after_reads_at
  show rem16 (W (Proc.devRef .tc main_v52) i) (W (Proc.devRef .tc main_c_13) ix0) = _
  rw [h, hc]
  exact rem16_ofNat (i 1)

theorem v51_at18 (c : Dev nD) : (W18 m ρ c main_v51 : IVec S256x1 32) = W16 m ρ c main_v51 := by
  rw [W18_of m ρ c main_v51 (by decide), W17_of m ρ c main_v51 (by decide)]

theorem v49_at18 (c : Dev nD) : (W18 m ρ c main_v49 : IVec S256 32) = W16 m ρ c main_v49 := by
  rw [W18_of m ρ c main_v49 (by decide), W17_of m ρ c main_v49 (by decide)]

theorem v64 (c : Dev nD) (r k : Fin 256) : (W19 m ρ c main_v64 : FVec Ideal S256x256 .f32) (ix2 r k) = hs (lo16 r) (lo16 k) := by
  have h6 := v51 m ρ c (ix2 r 0)
  rw [← v51_at18] at h6
  have h8 := v53 m ρ c (ix2 0 k)
  show (StableHlo.after hostOps0_18 (W18 m ρ c) main_v64 : FVec Ideal S256x256 .f32) (ix2 r k) = _
  generalize W18 m ρ c = W at *
  after_reads_at
  rw [h6, h8]
  exact one_sub_two (lo16 r) (lo16 k)

theorem v65 (c : Dev nD) (i : S256x1.Idx) : (W19 m ρ c main_v65 : IVec S256x1 32) i = BitVec.ofNat 32 (i 0).val := by
  have h := v49b m ρ c
  rw [← v49_at18] at h
  show (StableHlo.after hostOps0_18 (W18 m ρ c) main_v65 : IVec S256x1 32) i = _
  generalize W18 m ρ c = W at *
  after_reads_at
  rw [h]
  rfl

theorem c_17_eq (c : Dev nD) : W19 m ρ c main_c_17 = constantI S_ 32 16#32 := by
  show (StableHlo.after hostOps0_18 (W18 m ρ c) main_c_17 : IVec S_ 32) = _
  after_reads_simp

theorem v66 (c : Dev nD) (i : S256x1.Idx) : (W20 m ρ c main_v66 : IVec S256x1 32) i = BitVec.ofNat 32 ((i 0).val / 16) := by
  have h := v65 m ρ c i
  have hc := c_17_eq m ρ c
  show (StableHlo.after hostOps0_19 (W19 m ρ c) main_v66 : IVec S256x1 32) i = _
  generalize W19 m ρ c = W at *
  after_reads_at
  show div16 (W (Proc.devRef .tc main_v65) i) (W (Proc.devRef .tc main_c_17) ix0) = _
  rw [h, hc]
  exact div16_ofNat (i 0)

theorem v49d (c : Dev nD) (i : S256.Idx) : (W20 m ρ c main_v49 : IVec S256 32) i = BitVec.ofNat 32 (i 0).val := by
  rw [W20_of m ρ c main_v49 (by decide), W19_of m ρ c main_v49 (by decide), v49_at18]
  exact v49b m ρ c i

theorem v67 (c : Dev nD) (i : S1x256.Idx) : (W21 m ρ c main_v67 : IVec S1x256 32) i = BitVec.ofNat 32 (i 1).val := by
  show (StableHlo.after hostOps0_20 (W20 m ρ c) main_v67 : IVec S1x256 32) i = _
  have h := v49d m ρ c
  generalize W20 m ρ c = W at *
  after_reads_at
  rw [h]
  rfl

theorem c_18_eq (c : Dev nD) : W21 m ρ c main_c_18 = constantI S_ 32 16#32 := by
  show (StableHlo.after hostOps0_20 (W20 m ρ c) main_c_18 : IVec S_ 32) = _
  after_reads_simp

theorem v68 (c : Dev nD) (i : S1x256.Idx) : (W22 m ρ c main_v68 : IVec S1x256 32) i = BitVec.ofNat 32 ((i 1).val / 16) := by
  have h := v67 m ρ c i
  have hc := c_18_eq m ρ c
  show (StableHlo.after hostOps0_21 (W21 m ρ c) main_v68 : IVec S1x256 32) i = _
  generalize W21 m ρ c = W at *
  after_reads_at
  show div16 (W (Proc.devRef .tc main_v67) i) (W (Proc.devRef .tc main_c_18) ix0) = _
  rw [h, hc]
  exact div16_ofNat (i 1)

theorem v66_at22 (c : Dev nD) : (W22 m ρ c main_v66 : IVec S256x1 32) = W20 m ρ c main_v66 := by
  rw [W22_of m ρ c main_v66 (by decide), W21_of m ρ c main_v66 (by decide)]

theorem v71 (c : Dev nD) (r k : Fin 256) : (W23 m ρ c main_v71 : IVec S256x256 1) (ix2 r k) = IntOp.cmpi .eq (BitVec.ofNat 32 (r.val / 16)) (BitVec.ofNat 32 (k.val / 16)) := by
  have h1 := v66 m ρ c (ix2 r 0)
  rw [← v66_at22] at h1
  have h2 := v68 m ρ c (ix2 0 k)
  show (StableHlo.after hostOps0_22 (W22 m ρ c) main_v71 : IVec S256x256 1) (ix2 r k) = _
  generalize W22 m ρ c = W at *
  after_reads_at
  rw [h1, h2]
  rfl

theorem cst_19_eq (c : Dev nD) : W23 m ρ c main_cst_19 = constant (F := Ideal) S_ .f32 0x00000000#32 := by
  show (StableHlo.after hostOps0_22 (W22 m ρ c) main_cst_19 : FVec Ideal S_ .f32) = _
  after_reads_simp

theorem v64_at23 (c : Dev nD) : (W23 m ρ c main_v64 : FVec Ideal S256x256 .f32) = W19 m ρ c main_v64 := by
  rw [W23_of m ρ c main_v64 (by decide), W22_of m ρ c main_v64 (by decide), W21_of m ρ c main_v64 (by decide), W20_of m ρ c main_v64 (by decide)]

theorem v72 (c : Dev nD) (r k : Fin 256) : (W24 m ρ c main_v72 : FVec Ideal S256x256 .f32) (ix2 r k) = if hi16 r = hi16 k then hs (lo16 r) (lo16 k) else 0 := by
  have h1 := v71 m ρ c r k
  have h2 := v64 m ρ c r k
  rw [← v64_at23] at h2
  have h3 := cst_19_eq m ρ c
  show (StableHlo.after hostOps0_23 (W23 m ρ c) main_v72 : FVec Ideal S256x256 .f32) (ix2 r k) = _
  generalize W23 m ρ c = W at *
  after_reads_at
  rw [h1, h2, h3]
  exact pick_block r k _

theorem v88 (c : Dev nD) (r k : Fin 256) : (W25 m ρ c main_v88 : FVec Ideal S256x256 .bf16) (ix2 r k) = QN (sg m c) (perm16 r) k := by
  have h1 := v72 m ρ c
  have h2 := v48_at m ρ c
  have h3 := W24_args m ρ c main_arg2 (by decide)
  show (StableHlo.after hostOps0_24 (W24 m ρ c) main_v88 : FVec Ideal S256x256 .bf16) (ix2 r k) = _
  unfold sg
  rw [← h3]
  generalize W24 m ρ c = W at *
  after_reads_at
  rw [pick_rows _ (W (Proc.devRef .tc main_v48)) perm16 h2 r k]
  pointwise []
  rw [h1]
  rfl

end Cert.KernelIdeal.Host

end
-- ==== Proof.Lanes.lean ====
/- The kernel's quantiser, as functions of vectors of any shape: the two quantising kernels apply them once for each of
   the sixteen elements of a block. -/
module

public import proofs.«01_k».proof.Proof.Gen.KernelIdeal
public import Idealize.ShloMosaic.Lib.Pipeline.ValueKit

@[expose] public section

set_option maxRecDepth 16384

noncomputable section

namespace Cert.Fp4

open Idealize.ShloMosaic

variable {s : Shape}

/-- The clamped magnitude. -/
def vM (w : FVec Ideal s .f32) : FVec Ideal s .f32 := minimumf (absf w) (broadcast s (Scalar.ofBits .f32 0x40C00000#32))
def vLt2 (w : FVec Ideal s .f32) : IVec s 1 := cmpf .olt (vM w) (broadcast s (Scalar.ofBits .f32 0x40000000#32))
def vLt4 (w : FVec Ideal s .f32) : IVec s 1 := cmpf .olt (vM w) (broadcast s (Scalar.ofBits .f32 0x40800000#32))
/-- The magnitude in units of its step. -/
def vT (w : FVec Ideal s .f32) : FVec Ideal s .f32 :=
  mulf (vM w) (select (vLt2 w) (broadcast s (Scalar.ofBits .f32 0x40000000#32))
    (select (vLt4 w) (broadcast s (Scalar.ofBits .f32 0x3F800000#32)) (broadcast s (Scalar.ofBits .f32 0x3F000000#32))))
/-- The index at which the step's stretch begins. -/
def vOff (w : FVec Ideal s .f32) : IVec s 32 := select (vLt2 w) (broadcast s 0#32) (select (vLt4 w) (broadcast s 2#32) (broadcast s 4#32))
/-- The index of the magnitude, rounded to nearest. -/
def vIdx (w : FVec Ideal s .f32) : IVec s 32 := addi (fptosi 32 (roundeven (vT w))) (vOff w)
/-- The threshold of a random byte. -/
def vU (b : IVec s 32) : FVec Ideal s .f32 :=
  mulf (addf (sitofp .f32 b) (broadcast s (Scalar.ofBits .f32 0x3F000000#32))) (broadcast s (Scalar.ofBits .f32 0x3B800000#32))
/-- The index of the magnitude, rounded by a random byte. -/
def vIdxS (w : FVec Ideal s .f32) (b : IVec s 32) : IVec s 32 :=
  addi (addi (fptosi 32 (floor (vT w))) (select (cmpf .ogt (subf (vT w) (floor (vT w))) (vU b)) (broadcast s 1#32) (broadcast s 0#32))) (vOff w)
def vSgn (w : FVec Ideal s .f32) (i : IVec s 32) : IVec s 1 :=
  andi (cmpf .olt w (broadcast s (Scalar.ofBits .f32 0x00000000#32))) (cmpi .sgt i (broadcast s 0#32))
/-- The four bits. -/
def vNib (w : FVec Ideal s .f32) (i : IVec s 32) : IVec s 32 := addi i (select (vSgn w i) (broadcast s 8#32) (broadcast s 0#32))
def vMag (i : IVec s 32) : FVec Ideal s .f32 :=
  maximumf (maximumf (mulf (sitofp .f32 i) (broadcast s (Scalar.ofBits .f32 0x3F000000#32))) (subf (sitofp .f32 i) (broadcast s (Scalar.ofBits .f32 0x40000000#32))))
    (subf (mulf (broadcast s (Scalar.ofBits .f32 0x40000000#32)) (sitofp .f32 i)) (broadcast s (Scalar.ofBits .f32 0x41000000#32)))
/-- The dequantised value. -/
def vDq (w : FVec Ideal s .f32) (i : IVec s 32) (sc : FVec Ideal s .f32) : FVec Ideal s .f32 :=
  mulf (select (vSgn w i) (subf (broadcast s (Scalar.ofBits .f32 0x00000000#32)) (vMag i)) (vMag i)) sc
/-- Eight nibbles in one word. -/
def vWord (n0 n1 n2 n3 n4 n5 n6 n7 : IVec s 32) : IVec s 32 :=
  ori (ori (ori (ori (ori (ori (ori (ori (broadcast s 0#32) (shli n0 (broadcast s 0#32))) (shli n1 (broadcast s 4#32))) (shli n2 (broadcast s 8#32)))
    (shli n3 (broadcast s 12#32))) (shli n4 (broadcast s 16#32))) (shli n5 (broadcast s 20#32))) (shli n6 (broadcast s 24#32))) (shli n7 (broadcast s 28#32))
/-- The random byte `o / 8` of a word. -/
def vByte (wd : IVec s 32) (o : BitVec 32) : IVec s 32 := andi (shrui wd (broadcast s o)) (broadcast s 255#32)
/-- The reciprocal of a block's denominator. -/
def vR (sc ts : FVec Ideal s .f32) : FVec Ideal s .f32 :=
  select (cmpf .oeq sc (broadcast s (Scalar.ofBits .f32 0x00000000#32))) (broadcast s (Scalar.ofBits .f32 0x00000000#32))
    (divf (broadcast s (Scalar.ofBits .f32 0x3F800000#32))
      (select (cmpf .oeq sc (broadcast s (Scalar.ofBits .f32 0x00000000#32))) (broadcast s (Scalar.ofBits .f32 0x3F800000#32)) (mulf sc ts)))

/-! ## The reference's lines -/

/-- The step of a magnitude. -/
def rStep (w : FVec Ideal s .f32) : FVec Ideal s .f32 :=
  select (cmpf .olt (vM w) (broadcast s (Scalar.ofBits .f32 0x40000000#32))) (broadcast s (Scalar.ofBits .f32 0x3F000000#32))
    (select (cmpf .olt (vM w) (broadcast s (Scalar.ofBits .f32 0x40800000#32))) (broadcast s (Scalar.ofBits .f32 0x3F800000#32)) (broadcast s (Scalar.ofBits .f32 0x40000000#32)))
def rT (w : FVec Ideal s .f32) : FVec Ideal s .f32 := divf (vM w) (rStep w)
/-- The magnitude rounded to nearest. -/
def rQ (w : FVec Ideal s .f32) : FVec Ideal s .f32 := mulf (roundeven (rT w)) (rStep w)
/-- The magnitude rounded by a threshold. -/
def rQS (w u : FVec Ideal s .f32) : FVec Ideal s .f32 :=
  mulf (addf (floor (rT w)) (sitofp .f32 (extui 32 (cmpf .ogt (subf (rT w) (floor (rT w))) u) (by decide)))) (rStep w)
def rIdx (q : FVec Ideal s .f32) : IVec s 32 :=
  fptosi 32 (select (cmpf .olt q (broadcast s (Scalar.ofBits .f32 0x40000000#32))) (mulf (broadcast s (Scalar.ofBits .f32 0x40000000#32)) q)
    (select (cmpf .olt q (broadcast s (Scalar.ofBits .f32 0x40800000#32))) (addf q (broadcast s (Scalar.ofBits .f32 0x40000000#32)))
      (addf (mulf q (broadcast s (Scalar.ofBits .f32 0x3F000000#32))) (broadcast s (Scalar.ofBits .f32 0x40800000#32)))))
def rNib (w q : FVec Ideal s .f32) : IVec s 32 :=
  addi (rIdx q) (muli (broadcast s 8#32) (extui 32 (andi (cmpf .olt w (broadcast s (Scalar.ofBits .f32 0x00000000#32)))
    (cmpf .ogt q (broadcast s (Scalar.ofBits .f32 0x00000000#32)))) (by decide)))
def rMag (b0 b1 b2 : IVec s 1) : FVec Ideal s .bf16 :=
  select b2 (select b1 (select b0 (broadcast s (Scalar.ofBits .bf16 0x40C0#16)) (broadcast s (Scalar.ofBits .bf16 0x4080#16)))
      (select b0 (broadcast s (Scalar.ofBits .bf16 0x4040#16)) (broadcast s (Scalar.ofBits .bf16 0x4000#16))))
    (select b1 (select b0 (broadcast s (Scalar.ofBits .bf16 0x3FC0#16)) (broadcast s (Scalar.ofBits .bf16 0x3F80#16)))
      (select b0 (broadcast s (Scalar.ofBits .bf16 0x3F00#16)) (broadcast s (Scalar.ofBits .bf16 0x0000#16))))
def rBit (n : IVec s 32) (k : BitVec 32) : IVec s 1 := cmpi .ne (andi n (broadcast s k)) (broadcast s 0#32)
/-- The value of four bits. -/
def rDec (n : IVec s 32) : FVec Ideal s .bf16 :=
  select (rBit n 8#32) (subf (broadcast s (Scalar.ofBits .bf16 0x0000#16)) (rMag (rBit n 1#32) (rBit n 2#32) (rBit n 4#32)))
    (rMag (rBit n 1#32) (rBit n 2#32) (rBit n 4#32))

end Cert.Fp4

end
-- ==== Proof.Scalar.lean ====
/- The two quantisers agree element by element: the kernel's index, a rounded multiple plus the offset of its stretch, is
   the index the reference reads off the rounded magnitude, and the kernel's formula for the magnitude of an index is the
   reference's table. -/
module

public import proofs.«01_k».proof.Proof.Lanes
public import Mathlib.Tactic.IntervalCases

@[expose] public section

set_option maxRecDepth 16384

noncomputable section

namespace Cert.Fp4

open Idealize.ShloMosaic

/-! ## Constants -/

theorem c6 : Ideal.ofBits .f32 0x40C00000#32 = ((6 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c4 : Ideal.ofBits .f32 0x40800000#32 = ((4 : ℝ) : EReal) := by
  simp [Ideal.ofBits, Ideal.ieee, -EReal.coe_mul]; norm_num
theorem c8 : Ideal.ofBits .f32 0x41000000#32 = ((8 : ℝ) : EReal) := by
  simp [Ideal.ofBits, Ideal.ieee, -EReal.coe_mul]; norm_num
theorem ch : Ideal.ofBits .f32 0x3F000000#32 = ((1 / 2 : ℝ) : EReal) := by
  simp [Ideal.ofBits, Ideal.ieee, -EReal.coe_mul]; norm_num
theorem c256 : Ideal.ofBits .f32 0x3B800000#32 = ((1 / 256 : ℝ) : EReal) := by
  simp [Ideal.ofBits, Ideal.ieee, -EReal.coe_mul]; norm_num
theorem c1 : (1 : EReal) = ((1 : ℝ) : EReal) := by norm_cast
theorem c0 : (0 : EReal) = ((0 : ℝ) : EReal) := by norm_cast
theorem b6 : Ideal.ofBits .bf16 0x40C0#16 = ((6 : ℝ) : EReal) := by
  simp [Ideal.ofBits, Ideal.ieee, -EReal.coe_mul]; norm_num
theorem b4 : Ideal.ofBits .bf16 0x4080#16 = ((4 : ℝ) : EReal) := by
  simp [Ideal.ofBits, Ideal.ieee, -EReal.coe_mul]; norm_num
theorem b3 : Ideal.ofBits .bf16 0x4040#16 = ((3 : ℝ) : EReal) := by
  simp [Ideal.ofBits, Ideal.ieee, -EReal.coe_mul]; norm_num
theorem b2 : Ideal.ofBits .bf16 0x4000#16 = ((2 : ℝ) : EReal) := by
  simp [Ideal.ofBits, Ideal.ieee, -EReal.coe_mul]; norm_num
theorem b15 : Ideal.ofBits .bf16 0x3FC0#16 = ((3 / 2 : ℝ) : EReal) := by
  simp [Ideal.ofBits, Ideal.ieee, -EReal.coe_mul]; norm_num
theorem bh : Ideal.ofBits .bf16 0x3F00#16 = ((1 / 2 : ℝ) : EReal) := by
  simp [Ideal.ofBits, Ideal.ieee, -EReal.coe_mul]; norm_num

/-! ## Magnitudes -/

/-- The clamped magnitude of any value is a real between 0 and 6. -/
theorem clamp_real (w : EReal) : ∃ r : ℝ, 0 ≤ r ∧ r ≤ 6 ∧ min (FloatOps.absf (F := Ideal) (φ := .f32) w) ((6 : ℝ) : EReal) = (r : EReal) := by
  have h : FloatOps.absf (F := Ideal) (φ := .f32) w = max w (-w) := rfl
  rw [h]
  induction w with
  | bot => exact ⟨6, by norm_num, le_refl _, by simp⟩
  | top => exact ⟨6, by norm_num, le_refl _, by simp⟩
  | coe a =>
    refine ⟨min (max a (-a)) 6, le_min (le_max_iff.2 (by rcases le_total 0 a with h | h; exact .inl h; exact .inr (by linarith))) (by norm_num), min_le_right _ _, ?_⟩
    norm_cast

/-- A real that is an integer of 32 bits converts to it. -/
theorem fptosi_int (n : ℤ) (h0 : 0 ≤ n) (h1 : n < 100) :
    FloatOps.fptosi (F := Ideal) (φ := .f32) 32 (((n : ℝ)) : EReal) = BitVec.ofInt 32 n := by
  show Ideal.fptosi 32 _ = _
  unfold Ideal.fptosi
  rw [Ideal.toIntClamped_coe]
  have e : (if (0 : ℝ) ≤ (n : ℝ) then ⌊(n : ℝ)⌋ else ⌈(n : ℝ)⌉) = n := by simp
  rw [e]
  congr 1
  norm_num
  omega

theorem roundHalfEven_bounds (t : ℝ) (a b : ℤ) (ha : (a : ℝ) ≤ t) (hb : t ≤ (b : ℝ)) :
    a ≤ Ideal.roundHalfEven t ∧ Ideal.roundHalfEven t ≤ b := by
  have h1 : a ≤ ⌊t⌋ := Int.le_floor.2 ha
  have h2 : ⌊t⌋ ≤ b := by have := Int.floor_le t; exact_mod_cast (this.trans hb)
  have h3 : (⌊t⌋ : ℝ) ≤ t := Int.floor_le t
  have h4 : ⌊t⌋ = b → t - ⌊t⌋ ≤ 0 := fun e => by rw [e]; linarith
  unfold Ideal.roundHalfEven
  simp only
  by_cases e : ⌊t⌋ = b
  · have := h4 e
    rw [if_pos (by linarith)]
    exact ⟨h1, h2⟩
  · have h5 : ⌊t⌋ < b := lt_of_le_of_ne h2 e
    split_ifs <;> constructor <;> omega

/-- Rounding up or not by a threshold that is not negative stays between integer bounds. -/
theorem threshold_bounds (t u : ℝ) (hu : 0 ≤ u) (a b : ℤ) (ha : (a : ℝ) ≤ t) (hb : t ≤ (b : ℝ)) :
    a ≤ ⌊t⌋ + (if u < t - ⌊t⌋ then 1 else 0) ∧ ⌊t⌋ + (if u < t - ⌊t⌋ then 1 else 0) ≤ b := by
  have h1 : a ≤ ⌊t⌋ := Int.le_floor.2 ha
  have h2 : ⌊t⌋ ≤ b := by have := Int.floor_le t; exact_mod_cast (this.trans hb)
  have h4 : ⌊t⌋ = b → t - ⌊t⌋ ≤ 0 := fun e => by rw [e]; linarith
  by_cases e : ⌊t⌋ = b
  · have := h4 e
    rw [if_neg (by linarith)]
    constructor <;> omega
  · have h5 : ⌊t⌋ < b := lt_of_le_of_ne h2 e
    split_ifs <;> constructor <;> omega

/-- The scale of a magnitude's stretch, its inverse the step, and the index at which it begins. -/
def scale (r : ℝ) : ℝ := if r < 2 then 2 else if r < 4 then 1 else 1 / 2
def step (r : ℝ) : ℝ := if r < 2 then 1 / 2 else if r < 4 then 1 else 2
def start (r : ℝ) : ℤ := if r < 2 then 0 else if r < 4 then 2 else 4

theorem div_step (r : ℝ) : r / step r = r * scale r := by
  unfold step scale; split_ifs <;> ring

/-- The integers the rounded multiple can be. -/
def InRange (r : ℝ) (n : ℤ) : Prop := (r < 2 → 0 ≤ n ∧ n ≤ 4) ∧ (2 ≤ r → r < 4 → 2 ≤ n ∧ n ≤ 4) ∧ (4 ≤ r → 2 ≤ n ∧ n ≤ 3)

theorem inRange_bounds {r : ℝ} {n : ℤ} (h : InRange r n) : 0 ≤ n ∧ n < 100 := by
  obtain ⟨ha, hb, hc⟩ := h
  rcases lt_or_ge r 2 with h | h
  · have := ha h; omega
  · rcases lt_or_ge r 4 with h' | h'
    · have := hb h h'; omega
    · have := hc h'; omega

theorem inRange_of (r : ℝ) (h0 : 0 ≤ r) (h6 : r ≤ 6) (n : ℤ)
    (hn : ∀ a b : ℤ, (a : ℝ) ≤ r * scale r → r * scale r ≤ (b : ℝ) → a ≤ n ∧ n ≤ b) : InRange r n := by
  refine ⟨fun h => ?_, fun h h' => ?_, fun h => ?_⟩
  · have e : r * scale r = r * 2 := by unfold scale; rw [if_pos h]
    exact hn 0 4 (by rw [e]; push_cast; linarith) (by rw [e]; push_cast; linarith)
  · have e : r * scale r = r * 1 := by unfold scale; rw [if_neg (by linarith), if_pos h']
    exact hn 2 4 (by rw [e]; push_cast; linarith) (by rw [e]; push_cast; linarith)
  · have e : r * scale r = r * (1 / 2) := by unfold scale; rw [if_neg (by linarith), if_neg (by linarith)]
    exact hn 2 3 (by rw [e]; push_cast; linarith) (by rw [e]; push_cast; linarith)

variable {s s' : Shape}

theorem rIdx_apply (q : FVec Ideal s .f32) (x : s.Idx) (r : ℝ) (n : ℤ) (hr : InRange r n) (hq : q x = ((n * step r : ℝ) : EReal)) :
    rIdx q x = BitVec.ofInt 32 (n + start r) ∧ 0 ≤ n + start r ∧ n + start r ≤ 7 ∧ ((0 : EReal) < q x ↔ 0 < n + start r) := by
  obtain ⟨ha, hb, hc⟩ := hr
  have key : ∀ (v : ℝ) (k : ℤ), 0 ≤ k → k < 100 →
      (if v < 2 then 2 * v else if v < 4 then v + 2 else v * (1 / 2) + 4) = (k : ℝ) → q x = (v : EReal) → rIdx q x = BitVec.ofInt 32 k := by
    intro v k h0 h1 e hv
    pointwise [rIdx]
    rw [hv, c2, c4, ch, ← fptosi_int k h0 h1, ← e]
    simp only [EReal.coe_lt_coe_iff, ← EReal.coe_mul, ← EReal.coe_add]
    congr 1
    split_ifs <;> rfl
  have sgn : ∀ (v : ℝ) (k : ℤ), (0 < v ↔ 0 < k) → q x = (v : EReal) → ((0 : EReal) < q x ↔ 0 < k) := by
    intro v k h hv
    rw [hv, c0, EReal.coe_lt_coe_iff, h]
  unfold step at hq
  unfold start
  by_cases h2 : r < 2
  · obtain ⟨l, u⟩ := ha h2
    rw [if_pos h2] at hq ⊢
    refine ⟨key _ _ (by omega) (by omega) ?_ hq, by omega, by omega, sgn _ _ ?_ hq⟩ <;> interval_cases n <;> norm_num
  · by_cases h4 : r < 4
    · obtain ⟨l, u⟩ := hb (by linarith) h4
      rw [if_neg h2, if_pos h4] at hq ⊢
      refine ⟨key _ _ (by omega) (by omega) ?_ hq, by omega, by omega, sgn _ _ ?_ hq⟩ <;> interval_cases n <;> norm_num
    · obtain ⟨l, u⟩ := hc (by linarith)
      rw [if_neg h2, if_neg h4] at hq ⊢
      refine ⟨key _ _ (by omega) (by omega) ?_ hq, by omega, by omega, sgn _ _ ?_ hq⟩ <;> interval_cases n <;> norm_num

theorem vM_apply (w : FVec Ideal s .f32) (x : s.Idx) (r : ℝ)
    (h : min (FloatOps.absf (F := Ideal) (φ := .f32) (w x)) ((6 : ℝ) : EReal) = (r : EReal)) : vM w x = (r : EReal) := by
  pointwise [vM]
  rw [c6, h]

theorem vT_apply (w : FVec Ideal s .f32) (x : s.Idx) (r : ℝ) (h : vM w x = (r : EReal)) : vT w x = ((r * scale r : ℝ) : EReal) := by
  pointwise [vT, vLt2, vLt4]
  rw [h, c2, c4, ch, c1]
  simp only [EReal.coe_lt_coe_iff]
  unfold scale
  split_ifs <;> rw [← EReal.coe_mul]

theorem vOff_apply (w : FVec Ideal s .f32) (x : s.Idx) (r : ℝ) (h : vM w x = (r : EReal)) : vOff w x = BitVec.ofInt 32 (start r) := by
  pointwise [vOff, vLt2, vLt4]
  rw [h, c2, c4]
  simp only [EReal.coe_lt_coe_iff]
  unfold start
  split_ifs <;> rfl

theorem rStep_apply (w : FVec Ideal s .f32) (x : s.Idx) (r : ℝ) (h : vM w x = (r : EReal)) : rStep w x = ((step r : ℝ) : EReal) := by
  pointwise [rStep]
  rw [h, c2, c4, ch, c1]
  simp only [EReal.coe_lt_coe_iff]
  unfold step
  split_ifs <;> rfl

theorem rT_apply (w : FVec Ideal s .f32) (x : s.Idx) (r : ℝ) (h : vM w x = (r : EReal)) : rT w x = ((r * scale r : ℝ) : EReal) := by
  pointwise [rT]
  rw [h, rStep_apply w x r h, ← div_step]
  have : step r ≠ 0 := by unfold step; split_ifs <;> norm_num
  show Ideal.div _ _ = _
  unfold Ideal.div
  rw [if_neg (by rw [c0]; exact fun e => this (EReal.coe_eq_coe_iff.1 e)), div_eq_mul_inv, EReal.coe_mul]
  rfl

theorem ofInt_add (a b : ℤ) : IntOp.addi (BitVec.ofInt 32 a) (BitVec.ofInt 32 b) = BitVec.ofInt 32 (a + b) := by
  show BitVec.ofInt 32 a + BitVec.ofInt 32 b = _
  rw [BitVec.ofInt_add]

/-- Rounding to nearest: both sides find the same index, and the sign conditions agree. -/
theorem idx_round (w : FVec Ideal s .f32) (w' : FVec Ideal s' .f32) (x : s.Idx) (x' : s'.Idx) (hw : w x = w' x') :
    ∃ k : ℤ, 0 ≤ k ∧ k ≤ 7 ∧ vIdx w x = BitVec.ofInt 32 k ∧ rIdx (rQ w') x' = BitVec.ofInt 32 k ∧ ((0 : EReal) < rQ w' x' ↔ 0 < k) := by
  obtain ⟨r, h0, h6, hr⟩ := clamp_real (w x)
  have hm := vM_apply w x r hr
  have hm' := vM_apply w' x' r (by rw [← hw]; exact hr)
  have hin : InRange r (Ideal.roundHalfEven (r * scale r)) := inRange_of r h0 h6 _ fun a b => roundHalfEven_bounds _ a b
  have hq : rQ w' x' = ((Ideal.roundHalfEven (r * scale r) * step r : ℝ) : EReal) := by
    pointwise [rQ]
    rw [rT_apply w' x' r hm', rStep_apply w' x' r hm', Ideal.liftRound_coe, ← EReal.coe_mul]
  obtain ⟨e, l, u, sg⟩ := rIdx_apply (rQ w') x' r _ hin hq
  refine ⟨_, l, u, ?_, e, sg⟩
  pointwise [vIdx]
  rw [vT_apply w x r hm, vOff_apply w x r hm, Ideal.liftRound_coe, fptosi_int, ofInt_add]
  · exact (inRange_bounds hin).1
  · exact (inRange_bounds hin).2

/-- Rounding by a threshold: the same. -/
theorem idx_threshold (w : FVec Ideal s .f32) (w' : FVec Ideal s' .f32) (b : IVec s 32) (u : FVec Ideal s' .f32) (x : s.Idx) (x' : s'.Idx)
    (hw : w x = w' x') (v : ℝ) (hv : 0 ≤ v) (hb : vU b x = (v : EReal)) (hu : u x' = (v : EReal)) :
    ∃ k : ℤ, 0 ≤ k ∧ k ≤ 7 ∧ vIdxS w b x = BitVec.ofInt 32 k ∧ rIdx (rQS w' u) x' = BitVec.ofInt 32 k ∧ ((0 : EReal) < rQS w' u x' ↔ 0 < k) := by
  obtain ⟨r, h0, h6, hr⟩ := clamp_real (w x)
  have hm := vM_apply w x r hr
  have hm' := vM_apply w' x' r (by rw [← hw]; exact hr)
  have hin : InRange r (⌊r * scale r⌋ + (if v < r * scale r - ⌊r * scale r⌋ then 1 else 0)) :=
    inRange_of r h0 h6 _ fun a b => threshold_bounds _ v hv a b
  have hq : rQS w' u x' = (((⌊r * scale r⌋ + (if v < r * scale r - ⌊r * scale r⌋ then 1 else 0) : ℤ) * step r : ℝ) : EReal) := by
    pointwise [rQS]
    rw [rT_apply w' x' r hm', rStep_apply w' x' r hm', Ideal.liftRound_coe, hu, ← EReal.coe_sub]
    simp only [EReal.coe_lt_coe_iff]
    have hs : ∀ b : BitVec 32, FloatOps.sitofp (F := Ideal) FTy.f32 b = ((b.toInt : ℝ) : EReal) := fun _ => rfl
    rw [hs]
    by_cases h : v < r * scale r - ⌊r * scale r⌋
    · have e : (BitVec.setWidth 32 (BitVec.ofBool (decide (v < r * scale r - ⌊r * scale r⌋)))).toInt = 1 := by rw [decide_eq_true h]; rfl
      rw [e, if_pos h, ← EReal.coe_add, ← EReal.coe_mul, Int.cast_add]
    · have e : (BitVec.setWidth 32 (BitVec.ofBool (decide (v < r * scale r - ⌊r * scale r⌋)))).toInt = 0 := by rw [decide_eq_false h]; rfl
      rw [e, if_neg h, ← EReal.coe_add, ← EReal.coe_mul, Int.cast_add]
  obtain ⟨e, l, u', sg⟩ := rIdx_apply (rQS w' u) x' r _ hin hq
  refine ⟨_, l, u', ?_, e, sg⟩
  pointwise [vIdxS]
  rw [vT_apply w x r hm, vOff_apply w x r hm, Ideal.liftRound_coe, hb, ← EReal.coe_sub]
  simp only [EReal.coe_lt_coe_iff]
  have hf : 0 ≤ ⌊r * scale r⌋ ∧ ⌊r * scale r⌋ < 100 := by
    have := inRange_bounds hin
    have hp : 0 ≤ r * scale r := mul_nonneg h0 (by unfold scale; split_ifs <;> norm_num)
    have := Int.floor_nonneg.2 hp
    split_ifs at * <;> omega
  rw [fptosi_int _ hf.1 hf.2]
  rw [← ofInt_add, ← ofInt_add]
  congr 2
  split_ifs <;> rfl

/-! ## Four bits, and the value they stand for -/

/-- What is the same on the two sides when the index and the sign condition are: the four bits, and the value. -/
theorem code_of (w : FVec Ideal s .f32) (w' q : FVec Ideal s' .f32) (i : IVec s 32) (x : s.Idx) (x' : s'.Idx) (hw : w x = w' x')
    (h : ∃ k : ℤ, 0 ≤ k ∧ k ≤ 7 ∧ i x = BitVec.ofInt 32 k ∧ rIdx q x' = BitVec.ofInt 32 k ∧ ((0 : EReal) < q x' ↔ 0 < k)) :
    ∃ (n : BitVec 4) (v : EReal), vNib w i x = n.setWidth 32 ∧ rNib w' q x' = n.setWidth 32 ∧
      (∀ c : FVec Ideal s .f32, vDq w i c x = v * c x) ∧
      ∀ {s'' : Shape} (a : IVec s'' 32) (y : s''.Idx), a y = n.setWidth 32 → rDec a y = v := by
  obtain ⟨k, h0, h7, hi, hr, hq⟩ := h
  refine ⟨BitVec.ofInt 4 (k + if w x < 0 ∧ 0 < k then 8 else 0), (if w x < 0 ∧ 0 < k then -1 else 1) *
    ((max (max ((k : ℝ) / 2) (k - 2)) (2 * k - 8) : ℝ) : EReal), ?_, ?_, ?_, ?_⟩
  · pointwise [vNib, vSgn]
    rw [hi]
    by_cases hs : w x < 0 <;> interval_cases k <;> simp [hs] <;> decide
  · pointwise [rNib]
    rw [hr, ← hw]
    by_cases hs : w x < 0 <;> interval_cases k <;> simp [hs, hq] <;> decide
  · intro c
    have hm : vMag i x = ((max (max ((k : ℝ) / 2) (k - 2)) (2 * k - 8) : ℝ) : EReal) := by
      have hk : FloatOps.sitofp (F := Ideal) FTy.f32 (i x) = ((k : ℝ) : EReal) := by
        rw [hi]
        show (((BitVec.ofInt 32 k).toInt : ℝ) : EReal) = _
        have : (BitVec.ofInt 32 k).toInt = k := by interval_cases k <;> rfl
        rw [this]
      pointwise [vMag]
      rw [hk, c2, c8, ch, ← EReal.coe_mul, ← EReal.coe_mul, ← EReal.coe_sub, ← EReal.coe_sub, EReal.coe_strictMono.monotone.map_max, EReal.coe_strictMono.monotone.map_max, mul_one_div]
    pointwise [vDq, vSgn]
    rw [hm, hi]
    congr 1
    by_cases hs : w x < 0 <;> interval_cases k <;> simp [hs, Scalar.select, IntOp.cmpi, IntOp.andi]
  · intro s'' a y ha
    pointwise [rDec, rMag, rBit]
    rw [ha, b6, b4, b3, b2, b15, bh]
    by_cases hs : w x < 0 <;> interval_cases k <;> simp [hs, Scalar.select, IntOp.cmpi, IntOp.andi] <;> norm_num [max_def]

end Cert.Fp4

end
-- ==== Proof.Blocks.lean ====
/- What the two quantising kernels compute, as functions of whole arrays: rows are in the kernels' order, in which the
   sixteen rows of a block lie sixteen apart within a group of 256. -/
module

public import proofs.«01_k».proof.Proof.Scalar

@[expose] public section

set_option maxRecDepth 16384

noncomputable section

namespace Cert.Fp4

open Idealize.ShloMosaic

/-- A matrix shape. -/
abbrev sh (a b : ℕ) : Shape := ⟨2, ![a, b]⟩

/-- The row of element `k` of the block of row `r` of 1152. -/
def rowOf (r : Fin 1152) (k : Fin 16) : Fin 18432 := ⟨r.val / 16 * 256 + k.val * 16 + r.val % 16, by omega⟩
/-- The block of a row. -/
def blkOf (r : Fin 18432) : Fin 1152 := ⟨r.val / 256 * 16 + r.val % 16, by omega⟩
/-- The row of the random byte of a row. -/
def bitOf (r : Fin 18432) : Fin 18432 := ⟨r.val / 256 * 256 + r.val % 256 / 64 * 64 + r.val % 16 * 4 + r.val % 64 / 16, by omega⟩

/-- Row `j` of the group of a row. -/
def grpRow (r : Fin 18432) (j : Fin 256) : Fin 18432 := ⟨r.val / 256 * 256 + j.val, by omega⟩
/-- The place of a row in its group. -/
def inGrp (r : Fin 18432) : Fin 256 := ⟨r.val % 256, by omega⟩
/-- The row of the low and of the high nibble of row `r` of the codes. -/
def loRow (r : Fin 9216) : Fin 18432 := rowOf ⟨r.val / 8, by omega⟩ ⟨r.val % 8 * 2, by omega⟩
def hiRow (r : Fin 9216) : Fin 18432 := rowOf ⟨r.val / 8, by omega⟩ ⟨r.val % 8 * 2 + 1, by omega⟩

variable {N : ℕ}

/-- The transform of every group of 256 rows. -/
def XH (q : FVec Ideal (sh 256 256) .bf16) (x : FVec Ideal (sh 18432 N) .bf16) : FVec Ideal (sh 18432 N) .f32 :=
  fun i => ∑ j : Fin 256, q (ix2 (inGrp (i 0)) j) * x (ix2 (grpRow (i 0) j) (i 1))
/-- The scale of every block. -/
def SC (ts : EReal) (h : FVec Ideal (sh 18432 N) .f32) : FVec Ideal (sh 1152 N) .f32 :=
  fun i => min (Ideal.ofBits .f32 0x43E00000#32) (max 0 (Ideal.div (Finset.fold max (Ideal.ofBits .f32 0xFF800000#32)
    (fun k : Fin 16 => FloatOps.absf (F := Ideal) (φ := .f32) (h (ix2 (rowOf (i 0) k) (i 1)))) Finset.univ) (Ideal.ofBits .f32 0x40C00000#32 * ts)))
/-- The scale of every row. -/
def SR (sc : FVec Ideal (sh 1152 N) .f32) : FVec Ideal (sh 18432 N) .f32 := fun i => sc (ix2 (blkOf (i 0)) (i 1))
/-- The values to be rounded. -/
def WW (ts : EReal) (h : FVec Ideal (sh 18432 N) .f32) : FVec Ideal (sh 18432 N) .f32 :=
  fun i => h i * vR (SC ts h) (fun _ => ts) (ix2 (blkOf (i 0)) (i 1))
/-- The random bytes, row by row. -/
def BB (b : IVec (sh 18432 N) 8) : IVec (sh 18432 N) 32 := fun i => (b (ix2 (bitOf (i 0)) (i 1))).setWidth 32
/-- Two nibbles to a byte. -/
def CODES (n : IVec (sh 18432 N) 32) : IVec (sh 9216 N) 8 :=
  fun i => (n (ix2 (loRow (i 0)) (i 1)) ||| n (ix2 (hiRow (i 0)) (i 1)) <<< 4).setWidth 8

/-! ## Each vector function depends on the element alone -/

section
variable {s s' : Shape} {x : s.Idx} {x' : s'.Idx}

theorem vIdx_congr {w : FVec Ideal s .f32} {w' : FVec Ideal s' .f32} (h : w x = w' x') : vIdx w x = vIdx w' x' := by
  pointwise [vIdx, vT, vOff, vLt2, vLt4, vM]; rw [h]
theorem vIdxS_congr {w : FVec Ideal s .f32} {w' : FVec Ideal s' .f32} {b : IVec s 32} {b' : IVec s' 32} (h : w x = w' x') (hb : b x = b' x') :
    vIdxS w b x = vIdxS w' b' x' := by
  pointwise [vIdxS, vT, vU, vOff, vLt2, vLt4, vM]; rw [h, hb]
theorem vNib_congr {w : FVec Ideal s .f32} {w' : FVec Ideal s' .f32} {i : IVec s 32} {i' : IVec s' 32} (h : w x = w' x') (hi : i x = i' x') :
    vNib w i x = vNib w' i' x' := by
  pointwise [vNib, vSgn]; rw [h, hi]
theorem vDq_congr {w : FVec Ideal s .f32} {w' : FVec Ideal s' .f32} {i : IVec s 32} {i' : IVec s' 32} {c : FVec Ideal s .f32} {c' : FVec Ideal s' .f32}
    (h : w x = w' x') (hi : i x = i' x') (hc : c x = c' x') : vDq w i c x = vDq w' i' c' x' := by
  pointwise [vDq, vSgn, vMag]; rw [h, hi, hc]
theorem vR_congr {c t : FVec Ideal s .f32} {c' t' : FVec Ideal s' .f32} (h : c x = c' x') (ht : t x = t' x') : vR c t x = vR c' t' x' := by
  pointwise [vR]; rw [h, ht]
end

end Cert.Fp4

end
-- ==== Proof.Amax.lean ====
/- The two regions that find the largest magnitude of the transformed tensor: what they leave is bounded by a number exactly
   when every transformed element's magnitude is. -/
module

public import proofs.«01_k».proof.Proof.Gen.KernelIdeal.Frame
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Amax

open Cert.KernelIdeal Cert.KernelIdeal.Gen Cert.Fp4

/-- Eight pieces of 128 lanes joined to an accumulator. -/
def fold8 (acc : FVec Ideal S8x128 .f32) (m : FVec Ideal S8x1024 .f32) : FVec Ideal S8x128 .f32 :=
  maximumf (maximumf (maximumf (maximumf (maximumf (maximumf (maximumf (maximumf acc
    (extractStridedSlice S8x128 ![0, 0] m slices_S8x1024_o0_0_S8x128)) (extractStridedSlice S8x128 ![0, 128] m slices_S8x1024_o0_128_S8x128))
    (extractStridedSlice S8x128 ![0, 256] m slices_S8x1024_o0_256_S8x128)) (extractStridedSlice S8x128 ![0, 384] m slices_S8x1024_o0_384_S8x128))
    (extractStridedSlice S8x128 ![0, 512] m slices_S8x1024_o0_512_S8x128)) (extractStridedSlice S8x128 ![0, 640] m slices_S8x1024_o0_640_S8x128))
    (extractStridedSlice S8x128 ![0, 768] m slices_S8x1024_o0_768_S8x128)) (extractStridedSlice S8x128 ![0, 896] m slices_S8x1024_o0_896_S8x128)

theorem fold8_le (acc m) (b : EReal) : (∀ j, fold8 acc m j ≤ b) ↔ (∀ j, acc j ≤ b) ∧ ∀ (p : Fin 8) (l : Fin 1024), m (ix2 p l) ≤ b := by
  have e : ∀ j, fold8 acc m j ≤ b ↔ acc j ≤ b ∧ ∀ s : Fin 8, m (ix2 (j 0) ⟨s.val * 128 + (j 1).val, by have : (j 1).val < 128 := (j 1).isLt; omega⟩) ≤ b := by
    intro j
    pointwise [fold8]
    simp only [max_le_iff, Fin.forall_fin_succ, and_assoc]
    simp
  simp only [e]
  constructor
  · intro h
    refine ⟨fun j => (h j).1, fun p l => ?_⟩
    have := (h (ix2 p ⟨l.val % 128, by omega⟩)).2 ⟨l.val / 128, by omega⟩
    simp only [ix2_0, ix2_1] at this
    have e : (⟨l.val / 128 * 128 + l.val % 128, by omega⟩ : Fin 1024) = l := Fin.ext (by simp only; omega)
    rwa [e] at this
  · exact fun h j => ⟨h.1 j, fun s => h.2 _ _⟩

/-- The largest magnitudes of 32 rows at a time of a transformed group. -/
def kMax (q : FVec Ideal S256x256 .bf16) (y : FVec Ideal S256x1024 .bf16) : FVec Ideal S8x1024 .f32 := k0_pay4 q y

theorem neg_inf : Ideal.ofBits .f32 0xFF800000#32 = (⊥ : EReal) := by
  simp [Ideal.ofBits, Ideal.ieee]

theorem kMax_le (q y) (b : EReal) : (∀ (p : Fin 8) (l : Fin 1024), kMax q y (ix2 p l) ≤ b) ↔
    ∀ (r : Fin 256) (l : Fin 1024), FloatOps.absf (F := Ideal) (φ := .f32) (∑ j : Fin 256, q (ix2 r j) * y (ix2 j l)) ≤ b := by
  have e : ∀ (p : Fin 8) (l : Fin 1024), kMax q y (ix2 p l) ≤ b ↔
      ∀ s : Fin 32, FloatOps.absf (F := Ideal) (φ := .f32) (∑ j : Fin 256, q (ix2 (⟨s.val * 8 + p.val, by omega⟩ : Fin 256) j) * y (ix2 j l)) ≤ b := by
    intro p l
    pointwise [kMax, k0_pay4]
    rw [neg_inf, Finset.fold_max_le]
    simp
  simp only [e]
  constructor
  · intro h r l
    have := h ⟨r.val % 8, by omega⟩ l ⟨r.val / 8, by omega⟩
    have e : (⟨r.val / 8 * 8 + r.val % 8, by omega⟩ : Fin 256) = r := Fin.ext (by simp only; omega)
    simp only at this
    rwa [e] at this
  · exact fun h p l s => h _ _

theorem zero_le (b : EReal) : (∀ j, k0_pay2 (F := Ideal) j ≤ b) ↔ 0 ≤ b := by
  have e : ∀ j, k0_pay2 (F := Ideal) j = 0 := by intro j; pointwise [k0_pay2]
  simp only [e]
  exact ⟨fun h => h (ix2 0 0), fun h _ => h⟩

/-- Four groups joined to an accumulator. -/
def fold4 (acc : FVec Ideal S8x128 .f32) (q : FVec Ideal S256x256 .bf16) (y0 y1 y2 y3 : FVec Ideal S256x1024 .bf16) : FVec Ideal S8x128 .f32 :=
  fold8 (fold8 (fold8 (fold8 acc (kMax q y0)) (kMax q y1)) (kMax q y2)) (kMax q y3)

theorem pay3_eq (acc q y0) : k0_pay3 (F := Ideal) acc q y0 = fold8 (shapeCast S8x128 acc shapeCasts_S8x128_S8x128) (kMax q y0) := rfl

theorem pay6_eq (acc q y1 y2) : k0_pay6 (F := Ideal) acc (k0_pay4 q y1) (k0_pay5 q y1) q y2 = fold8 (fold8 acc (kMax q y1)) (kMax q y2) := rfl

theorem pay1_eq (acc q y3) : k0_pay1 (F := Ideal) acc (k0_pay7 q y3) (k0_pay8 q y3) = fold8 acc (kMax q y3) := rfl

theorem self_cast (acc : FVec Ideal S8x128 .f32) : shapeCast S8x128 acc shapeCasts_S8x128_S8x128 = acc := by
  funext j
  pointwise []

theorem pays0 (acc q y0 y1 y2 y3) : k0_pay1 (F := Ideal) (k0_pay6 (k0_pay3 acc q y0) (k0_pay4 q y1) (k0_pay5 q y1) q y2) (k0_pay7 q y3) (k0_pay8 q y3) =
    fold4 acc q y0 y1 y2 y3 := by
  rw [pay1_eq, pay6_eq, pay3_eq, self_cast]
  rfl

variable (V : (c : Dev nD) → (b : Ref sig .tc) → Buf (Elt Ideal) ((c : Thread nD τ).loc b))

theorem idx0 : ∀ t : Fin cfg0.N, win0_0.index t = ![0, 0] ∧ win0_1.index t = ![t.val / 3, t.val % 3] ∧ win0_2.index t = ![0, 0] :=
  (by decide +kernel : ∀ t : Fin grid0.N, _)

/-- The transformed tensor. -/
abbrev xh0 (c : Dev nD) : FVec Ideal S18432x3072 .f32 := XH (N := 3072) (V c main_v43) (V c main_v0)

/-- The transform matrix of a point. -/
abbrev qb0 (c : Dev nD) (t : Fin cfg0.N) : FVec Ideal S256x256 .bf16 := iblk0 V c 0 t

/-- A group of rows of a point. -/
abbrev yb0 (c : Dev nD) (t : Fin cfg0.N) (o : ℕ) (hin : ∀ a, (![o, 0] : Fin S1024x1024.rank → ℕ) a + (![256, 1024] : Fin S1024x1024.rank → ℕ) a ≤ S1024x1024.size a) : FVec Ideal S256x1024 .bf16 :=
  View.ld (iblk0 V c 1 t) (Rect.unit (![o, 0] : Fin S1024x1024.rank → ℕ) ![256, 1024] hin)

theorem row0 (c : Dev nD) (t : Fin cfg0.N) (o : ℕ) (ho : o % 256 = 0) (ho' : o ≤ 768) (hin) (b : EReal) :
    (∀ (r : Fin 256) (l : Fin 1024), FloatOps.absf (F := Ideal) (φ := .f32) (∑ j : Fin 256, qb0 V c t (ix2 r j) *
      yb0 V c t o hin (ix2 j l)) ≤ b) ↔
    ∀ (R : Fin 18432) (C : Fin 3072), R.val / 256 = t.val / 3 * 4 + o / 256 → C.val / 1024 = t.val % 3 →
      FloatOps.absf (F := Ideal) (φ := .f32) (xh0 V c (ix2 R C)) ≤ b := by
  have e : ∀ (r : Fin 256) (l : Fin 1024) (R : Fin 18432) (C : Fin 3072), R.val = t.val / 3 * 1024 + o + r.val → C.val = t.val % 3 * 1024 + l.val →
      ∑ j : Fin 256, qb0 V c t (ix2 r j) *
      yb0 V c t o hin (ix2 j l) = xh0 V c (ix2 R C) := by
    intro r l R C hR hC
    unfold xh0 XH
    refine Finset.sum_congr rfl fun j _ => ?_
    simp only [yb0, qb0, View.ld]
    blk_point [iblk0, idx0 t]
    all_goals (simp only [grpRow, inGrp, ix2_0, ix2_1]; omega)
  have ht : t.val < 54 := t.isLt
  constructor
  · intro h R C hR hC
    rw [← e ⟨R.val % 256, by omega⟩ ⟨C.val % 1024, by omega⟩ R C (by simp only; omega) (by simp only; omega)]
    exact h _ _
  · intro h r l
    rw [e r l ⟨t.val / 3 * 1024 + o + r.val, by omega⟩ ⟨t.val % 3 * 1024 + l.val, by omega⟩ rfl rfl]
    exact h _ _ (by simp only; omega) (by simp only; omega)

theorem step0 (c : Dev nD) (t : Fin cfg0.N) (b : EReal) : (∀ j, outsAt0 V c t.val t.isLt j ≤ b) ↔
    (if t.val = 0 then 0 ≤ b else ∀ j, outsAt0 V c (t.val - 1) (Nat.lt_of_le_of_lt (Nat.sub_le _ _) t.isLt) j ≤ b) ∧
    ∀ (R : Fin 18432) (C : Fin 3072), R.val / 1024 = t.val / 3 → C.val / 1024 = t.val % 3 → FloatOps.absf (F := Ideal) (φ := .f32) (xh0 V c (ix2 R C)) ≤ b := by
  have key : ∀ acc, (∀ j, fold4 acc (iblk0 V c 0 t) (View.ld (iblk0 V c 1 t) (Rect.unit ![0, 0] ![256, 1024] inb_S1024x1024_S256x1024_0_0))
      (View.ld (iblk0 V c 1 t) (Rect.unit ![256, 0] ![256, 1024] inb_S1024x1024_S256x1024_256_0))
      (View.ld (iblk0 V c 1 t) (Rect.unit ![512, 0] ![256, 1024] inb_S1024x1024_S256x1024_512_0))
      (View.ld (iblk0 V c 1 t) (Rect.unit ![768, 0] ![256, 1024] inb_S1024x1024_S256x1024_768_0)) j ≤ b) ↔ (∀ j, acc j ≤ b) ∧
      ∀ (R : Fin 18432) (C : Fin 3072), R.val / 1024 = t.val / 3 → C.val / 1024 = t.val % 3 → FloatOps.absf (F := Ideal) (φ := .f32) (xh0 V c (ix2 R C)) ≤ b := by
    intro acc
    unfold fold4
    rw [fold8_le, fold8_le, fold8_le, fold8_le, kMax_le, kMax_le, kMax_le, kMax_le, row0 V c t 0 (by decide) (by decide), row0 V c t 256 (by decide) (by decide),
      row0 V c t 512 (by decide) (by decide), row0 V c t 768 (by decide) (by decide)]
    constructor
    · rintro ⟨⟨⟨⟨h, h0⟩, h1⟩, h2⟩, h3⟩
      refine ⟨h, fun R C hR hC => ?_⟩
      have hc : R.val / 256 = t.val / 3 * 4 + 0 / 256 ∨ R.val / 256 = t.val / 3 * 4 + 256 / 256 ∨ R.val / 256 = t.val / 3 * 4 + 512 / 256 ∨
        R.val / 256 = t.val / 3 * 4 + 768 / 256 := by omega
      rcases hc with hc | hc | hc | hc
      · exact h0 R C hc hC
      · exact h1 R C hc hC
      · exact h2 R C hc hC
      · exact h3 R C hc hC
    · rintro ⟨h, h'⟩
      exact ⟨⟨⟨⟨h, fun R C hR hC => h' R C (by omega) hC⟩, fun R C hR hC => h' R C (by omega) hC⟩, fun R C hR hC => h' R C (by omega) hC⟩,
        fun R C hR hC => h' R C (by omega) hC⟩
  have ht : t.val < 54 := t.isLt
  by_cases h0 : t.val = 0
  · rw [if_pos h0, outsAt0_A V c t (by omega), ← zero_le b]
    frame_out
    rw [pays0]
    exact key k0_pay2
  · rw [if_neg h0, outsAt0_B V c t (by omega)]
    frame_out
    rw [pays0]
    exact key (outsAt0 V c (t.val - 1) (Nat.lt_of_le_of_lt (Nat.sub_le _ _) t.isLt))

theorem all0 (c : Dev nD) (b : EReal) : ∀ (n : ℕ) (hn : n < cfg0.N), (∀ j, outsAt0 V c n hn j ≤ b) ↔ 0 ≤ b ∧
    ∀ (R : Fin 18432) (C : Fin 3072), R.val / 1024 * 3 + C.val / 1024 ≤ n → FloatOps.absf (F := Ideal) (φ := .f32) (xh0 V c (ix2 R C)) ≤ b := by
  intro n
  induction n with
  | zero =>
    intro hn
    rw [step0 V c ⟨0, hn⟩ b, if_pos rfl]
    refine and_congr Iff.rfl ⟨fun h R C hRC => h R C (by simp only; omega) (by simp only; omega), fun h R C hR hC => h R C (by simp only at hR hC; omega)⟩
  | succ n ih =>
    intro hn
    rw [step0 V c ⟨n + 1, hn⟩ b, if_neg (by simp only; omega)]
    simp only [Nat.add_sub_cancel]
    rw [ih (by omega), and_assoc]
    refine and_congr Iff.rfl ⟨fun h R C hRC => ?_, fun h => ⟨fun R C hRC => h R C (by omega), fun R C hR hC => h R C (by omega)⟩⟩
    by_cases hle : R.val / 1024 * 3 + C.val / 1024 ≤ n
    · exact h.1 R C hle
    · exact h.2 R C (by omega) (by omega)

/-- What the region leaves in its array. -/
abbrev out0 (c : Dev nD) : FVec Ideal S8x128 .f32 := (dat0 V c).arrAt 2 cfg0.N

theorem final0 (c : Dev nD) (b : EReal) : (∀ j, out0 V c j ≤ b) ↔ 0 ≤ b ∧
    ∀ (R : Fin 18432) (C : Fin 3072), FloatOps.absf (F := Ideal) (φ := .f32) (xh0 V c (ix2 R C)) ≤ b := by
  have e : out0 V c = outsAt0 V c 53 (by decide) := by
    refine (dat0 V c).arrAt_eq_of_covers 2 _ (by decide +kernel) fun t hf y => ?_
    blk_simp
    have h := (flush0_2 t).mp hf
    have ht : t.val < 54 := t.isLt
    have h53 : t.val = 53 := by omega
    rw [after0_2]
    have he : ((View.whole main_v89).slice (win0_2.rect t)).emb y = y := by
      obtain ⟨a, l, rfl⟩ : ∃ (a : Fin 8) (l : Fin 128), y = ix2 a l := ⟨y 0, y 1, by funext c; match c with | ⟨0, _⟩ => rfl | ⟨1, _⟩ => rfl⟩
      blk_point [idx0 t]
    rw [he]
    simp only [h53]
  rw [e, all0 V c b 53 (by decide)]
  exact and_congr Iff.rfl ⟨fun h R C => h R C (by omega), fun h R C _ => h R C⟩

theorem pay3_eq1 (acc q y0) : k1_pay3 (F := Ideal) acc q y0 = fold8 (shapeCast S8x128 acc shapeCasts_S8x128_S8x128) (kMax q y0) := rfl

theorem pay6_eq1 (acc q y1 y2) : k1_pay6 (F := Ideal) acc (k1_pay4 q y1) (k1_pay5 q y1) q y2 = fold8 (fold8 acc (kMax q y1)) (kMax q y2) := rfl

theorem pay1_eq1 (acc q y3) : k1_pay1 (F := Ideal) acc (k1_pay7 q y3) (k1_pay8 q y3) = fold8 acc (kMax q y3) := rfl

theorem pays1 (acc q y0 y1 y2 y3) : k1_pay1 (F := Ideal) (k1_pay6 (k1_pay3 acc q y0) (k1_pay4 q y1) (k1_pay5 q y1) q y2) (k1_pay7 q y3) (k1_pay8 q y3) =
    fold4 acc q y0 y1 y2 y3 := by
  rw [pay1_eq1, pay6_eq1, pay3_eq1, self_cast]
  rfl

theorem idx1 : ∀ t : Fin cfg1.N, win1_0.index t = ![0, 0] ∧ win1_1.index t = ![t.val / 8, t.val % 8] ∧ win1_2.index t = ![0, 0] :=
  (by decide +kernel : ∀ t : Fin grid1.N, _)

/-- The transformed tensor. -/
abbrev xh1 (c : Dev nD) : FVec Ideal S18432x8192 .f32 := XH (N := 8192) (V c main_v43) (V c main_v1)

/-- The transform matrix of a point. -/
abbrev qb1 (c : Dev nD) (t : Fin cfg1.N) : FVec Ideal S256x256 .bf16 := iblk1 V c 0 t

/-- A group of rows of a point. -/
abbrev yb1 (c : Dev nD) (t : Fin cfg1.N) (o : ℕ) (hin : ∀ a, (![o, 0] : Fin S1024x1024.rank → ℕ) a + (![256, 1024] : Fin S1024x1024.rank → ℕ) a ≤ S1024x1024.size a) : FVec Ideal S256x1024 .bf16 :=
  View.ld (iblk1 V c 1 t) (Rect.unit (![o, 0] : Fin S1024x1024.rank → ℕ) ![256, 1024] hin)

theorem row1 (c : Dev nD) (t : Fin cfg1.N) (o : ℕ) (ho : o % 256 = 0) (ho' : o ≤ 768) (hin) (b : EReal) :
    (∀ (r : Fin 256) (l : Fin 1024), FloatOps.absf (F := Ideal) (φ := .f32) (∑ j : Fin 256, qb1 V c t (ix2 r j) *
      yb1 V c t o hin (ix2 j l)) ≤ b) ↔
    ∀ (R : Fin 18432) (C : Fin 8192), R.val / 256 = t.val / 8 * 4 + o / 256 → C.val / 1024 = t.val % 8 →
      FloatOps.absf (F := Ideal) (φ := .f32) (xh1 V c (ix2 R C)) ≤ b := by
  have e : ∀ (r : Fin 256) (l : Fin 1024) (R : Fin 18432) (C : Fin 8192), R.val = t.val / 8 * 1024 + o + r.val → C.val = t.val % 8 * 1024 + l.val →
      ∑ j : Fin 256, qb1 V c t (ix2 r j) *
      yb1 V c t o hin (ix2 j l) = xh1 V c (ix2 R C) := by
    intro r l R C hR hC
    unfold xh1 XH
    refine Finset.sum_congr rfl fun j _ => ?_
    simp only [yb1, qb1, View.ld]
    blk_point [iblk1, idx1 t]
    all_goals (simp only [grpRow, inGrp, ix2_0, ix2_1]; omega)
  have ht : t.val < 144 := t.isLt
  constructor
  · intro h R C hR hC
    rw [← e ⟨R.val % 256, by omega⟩ ⟨C.val % 1024, by omega⟩ R C (by simp only; omega) (by simp only; omega)]
    exact h _ _
  · intro h r l
    rw [e r l ⟨t.val / 8 * 1024 + o + r.val, by omega⟩ ⟨t.val % 8 * 1024 + l.val, by omega⟩ rfl rfl]
    exact h _ _ (by simp only; omega) (by simp only; omega)

theorem step1 (c : Dev nD) (t : Fin cfg1.N) (b : EReal) : (∀ j, outsAt1 V c t.val t.isLt j ≤ b) ↔
    (if t.val = 0 then 0 ≤ b else ∀ j, outsAt1 V c (t.val - 1) (Nat.lt_of_le_of_lt (Nat.sub_le _ _) t.isLt) j ≤ b) ∧
    ∀ (R : Fin 18432) (C : Fin 8192), R.val / 1024 = t.val / 8 → C.val / 1024 = t.val % 8 → FloatOps.absf (F := Ideal) (φ := .f32) (xh1 V c (ix2 R C)) ≤ b := by
  have key : ∀ acc, (∀ j, fold4 acc (iblk1 V c 0 t) (View.ld (iblk1 V c 1 t) (Rect.unit ![0, 0] ![256, 1024] inb_S1024x1024_S256x1024_0_0))
      (View.ld (iblk1 V c 1 t) (Rect.unit ![256, 0] ![256, 1024] inb_S1024x1024_S256x1024_256_0))
      (View.ld (iblk1 V c 1 t) (Rect.unit ![512, 0] ![256, 1024] inb_S1024x1024_S256x1024_512_0))
      (View.ld (iblk1 V c 1 t) (Rect.unit ![768, 0] ![256, 1024] inb_S1024x1024_S256x1024_768_0)) j ≤ b) ↔ (∀ j, acc j ≤ b) ∧
      ∀ (R : Fin 18432) (C : Fin 8192), R.val / 1024 = t.val / 8 → C.val / 1024 = t.val % 8 → FloatOps.absf (F := Ideal) (φ := .f32) (xh1 V c (ix2 R C)) ≤ b := by
    intro acc
    unfold fold4
    rw [fold8_le, fold8_le, fold8_le, fold8_le, kMax_le, kMax_le, kMax_le, kMax_le, row1 V c t 0 (by decide) (by decide), row1 V c t 256 (by decide) (by decide),
      row1 V c t 512 (by decide) (by decide), row1 V c t 768 (by decide) (by decide)]
    constructor
    · rintro ⟨⟨⟨⟨h, h0⟩, h1⟩, h2⟩, h3⟩
      refine ⟨h, fun R C hR hC => ?_⟩
      have hc : R.val / 256 = t.val / 8 * 4 + 0 / 256 ∨ R.val / 256 = t.val / 8 * 4 + 256 / 256 ∨ R.val / 256 = t.val / 8 * 4 + 512 / 256 ∨
        R.val / 256 = t.val / 8 * 4 + 768 / 256 := by omega
      rcases hc with hc | hc | hc | hc
      · exact h0 R C hc hC
      · exact h1 R C hc hC
      · exact h2 R C hc hC
      · exact h3 R C hc hC
    · rintro ⟨h, h'⟩
      exact ⟨⟨⟨⟨h, fun R C hR hC => h' R C (by omega) hC⟩, fun R C hR hC => h' R C (by omega) hC⟩, fun R C hR hC => h' R C (by omega) hC⟩,
        fun R C hR hC => h' R C (by omega) hC⟩
  have ht : t.val < 144 := t.isLt
  by_cases h0 : t.val = 0
  · rw [if_pos h0, outsAt1_A V c t (by omega), ← zero_le b]
    frame_out
    rw [pays1]
    exact key k1_pay2
  · rw [if_neg h0, outsAt1_B V c t (by omega)]
    frame_out
    rw [pays1]
    exact key (outsAt1 V c (t.val - 1) (Nat.lt_of_le_of_lt (Nat.sub_le _ _) t.isLt))

theorem all1 (c : Dev nD) (b : EReal) : ∀ (n : ℕ) (hn : n < cfg1.N), (∀ j, outsAt1 V c n hn j ≤ b) ↔ 0 ≤ b ∧
    ∀ (R : Fin 18432) (C : Fin 8192), R.val / 1024 * 8 + C.val / 1024 ≤ n → FloatOps.absf (F := Ideal) (φ := .f32) (xh1 V c (ix2 R C)) ≤ b := by
  intro n
  induction n with
  | zero =>
    intro hn
    rw [step1 V c ⟨0, hn⟩ b, if_pos rfl]
    refine and_congr Iff.rfl ⟨fun h R C hRC => h R C (by simp only; omega) (by simp only; omega), fun h R C hR hC => h R C (by simp only at hR hC; omega)⟩
  | succ n ih =>
    intro hn
    rw [step1 V c ⟨n + 1, hn⟩ b, if_neg (by simp only; omega)]
    simp only [Nat.add_sub_cancel]
    rw [ih (by omega), and_assoc]
    refine and_congr Iff.rfl ⟨fun h R C hRC => ?_, fun h => ⟨fun R C hRC => h R C (by omega), fun R C hR hC => h R C (by omega)⟩⟩
    by_cases hle : R.val / 1024 * 8 + C.val / 1024 ≤ n
    · exact h.1 R C hle
    · exact h.2 R C (by omega) (by omega)

/-- What the region leaves in its array. -/
abbrev out1 (c : Dev nD) : FVec Ideal S8x128 .f32 := (dat1 V c).arrAt 2 cfg1.N

theorem final1 (c : Dev nD) (b : EReal) : (∀ j, out1 V c j ≤ b) ↔ 0 ≤ b ∧
    ∀ (R : Fin 18432) (C : Fin 8192), FloatOps.absf (F := Ideal) (φ := .f32) (xh1 V c (ix2 R C)) ≤ b := by
  have e : out1 V c = outsAt1 V c 143 (by decide) := by
    refine (dat1 V c).arrAt_eq_of_covers 2 _ (by decide +kernel) fun t hf y => ?_
    blk_simp
    have h := (flush1_2 t).mp hf
    have ht : t.val < 144 := t.isLt
    have hlast : t.val = 143 := by omega
    rw [after1_2]
    have he : ((View.whole main_v95).slice (win1_2.rect t)).emb y = y := by
      obtain ⟨a, l, rfl⟩ : ∃ (a : Fin 8) (l : Fin 128), y = ix2 a l := ⟨y 0, y 1, by funext c; match c with | ⟨0, _⟩ => rfl | ⟨1, _⟩ => rfl⟩
      blk_point [idx1 t]
    rw [he]
    simp only [hlast]
  rw [e, all1 V c b 143 (by decide)]
  exact and_congr Iff.rfl ⟨fun h R C => h R C (by omega), fun h R C _ => h R C⟩

end Cert.KernelIdeal.Amax

end
-- ==== Proof.Pieces.lean ====
/- What the two quantising kernels do with one block of 256 rows: the sixteen elements of a block of the quantiser one
   after another, eight of their nibbles to a word, and the words' bytes as rows. -/
module

public import proofs.«01_k».proof.Proof.Gen.KernelIdeal.Skeleton
public import proofs.«01_k».proof.Proof.Blocks
public import Idealize.ShloMosaic.Lib.BitcastFour

@[expose] public section

set_option maxRecDepth 16384

noncomputable section

namespace Cert.KernelIdeal.Pieces

open Cert.KernelIdeal Cert.KernelIdeal.Gen Cert.Fp4
open Idealize.ShloMosaic Idealize.ShloMosaic.TcCoe Idealize.SL.Sem

/-! ## Elements -/

/-- Element `k` of every block, times the reciprocal. -/
def kW (vb : FVec Ideal S16x16x512 .f32) (rr : FVec Ideal S16x512 .f32) (k : ℕ) (h : S16x16x512.Slices ![k, 0, 0] S1x16x512) : FVec Ideal S16x512 .f32 :=
  mulf (shapeCast S16x512 (extractStridedSlice S1x16x512 ![k, 0, 0] vb h) shapeCasts_S1x16x512_S16x512) rr

theorem kW_apply (vb rr k h) (hk : k < 16) (x) : kW vb rr k h x = vb (ix3 ⟨k, hk⟩ (x 0) (x 1)) * rr x := by
  pointwise [kW]

/-- The dequantised element `k`, rounded to nearest. -/
def kDq (vb : FVec Ideal S16x16x512 .f32) (rr sc : FVec Ideal S16x512 .f32) (k : ℕ) (h : S16x16x512.Slices ![k, 0, 0] S1x16x512) : FVec Ideal S16x512 .bf16 :=
  truncf .bf16 (vDq (kW vb rr k h) (vIdx (kW vb rr k h)) sc) bitsLt_bf16_f32
/-- Its four bits. -/
def kNib (vb : FVec Ideal S16x16x512 .f32) (rr : FVec Ideal S16x512 .f32) (k : ℕ) (h : S16x16x512.Slices ![k, 0, 0] S1x16x512 := by decide) : IVec S16x512 32 :=
  vNib (kW vb rr k h) (vIdx (kW vb rr k h))

/-- The random byte of an element: four rows of bytes are one row of words. -/
def kB (v : Vec Ideal S64x512 .i8) (o : BitVec 32) : IVec S16x512 32 :=
  vByte (bitcast S16x512 32 (shapeCast S64x512 (v : Vec Ideal S64x512 .i8) shapeCasts_S64x512_S64x512) bitcasts_S64x512_w8_S16x512_w32) o
/-- The dequantised element `k`, rounded by its random byte. -/
def kDqS (vb : FVec Ideal S16x16x512 .f32) (rr sc : FVec Ideal S16x512 .f32) (k : ℕ) (h : S16x16x512.Slices ![k, 0, 0] S1x16x512)
    (v : Vec Ideal S64x512 .i8) (o : BitVec 32) : FVec Ideal S16x512 .bf16 :=
  truncf .bf16 (vDq (kW vb rr k h) (vIdxS (kW vb rr k h) (kB v o)) sc) bitsLt_bf16_f32
/-- Its four bits. -/
def kNibS (vb : FVec Ideal S16x16x512 .f32) (rr : FVec Ideal S16x512 .f32) (v : Vec Ideal S64x512 .i8) (o : BitVec 32) (k : ℕ)
    (h : S16x16x512.Slices ![k, 0, 0] S1x16x512 := by decide) : IVec S16x512 32 :=
  vNib (kW vb rr k h) (vIdxS (kW vb rr k h) (kB v o))

/-! ## Words and bytes -/

/-- Two rows of words per block, as rows of bytes. -/
def kCodes (w0 w1 : IVec S16x512 32) : IVec S128x512 8 :=
  bitcast S128x512 8 (shapeCast S32x512 (concatenate S16x2x512 1 [⟨S16x1x512, shapeCast S16x1x512 w0 shapeCasts_S16x512_S16x1x512⟩,
    ⟨S16x1x512, shapeCast S16x1x512 w1 shapeCasts_S16x512_S16x1x512⟩] concatenates_S16x1x512_S16x1x512_S16x2x512_d1)
    shapeCasts_S16x2x512_S32x512) bitcasts_S32x512_w32_S128x512_w8

theorem bitcast_32_8_ix2 {R r n : ℕ} (x : (sh r n).Idx → BitVec 32) (h : (sh r n).Bitcasts 32 (sh R n) 8) (a : Fin R) (l : Fin n) (p : Fin r)
    (hp : p.val = a.val / 4) : bitcast (sh R n) 8 x h (ix2 a l) = (x (ix2 p l)).extractLsb' (8 * (a.val % 4)) 8 := by
  apply BitVec.eq_of_getLsbD_eq
  intro i hi
  have hrow : (sh R n).row (ix2 a l) = a.val := rfl
  rw [bitcast_getLsbD x h _ i hi (by decide), BitVec.getLsbD_extractLsb']
  have e : ((sh R n).row (ix2 a l) * 8 + i) % 32 = 8 * (a.val % 4) + i := by rw [hrow]; omega
  have ep : ((sh R n).row (ix2 a l) * 8 + i) / 32 = a.val / 4 := by rw [hrow]; omega
  rw [e]
  simp only [hi, decide_true, Bool.true_and]
  congr 2
  funext c
  match c with
  | ⟨0, _⟩ => exact Fin.ext ((h.srcIdx_row _ _ _ ⟨0, Nat.zero_lt_two⟩ rfl).trans (ep.trans hp.symm))
  | ⟨1, _⟩ => exact Fin.ext (h.srcIdx_other _ _ _ ⟨1, Nat.one_lt_two⟩ (by show ¬ 1 + 2 = 2; omega))

theorem kCodes_apply (w0 w1 : IVec S16x512 32) (a : Fin 128) (l : Fin 512) :
    kCodes w0 w1 (ix2 a l) = ((if a.val / 4 % 2 = 0 then w0 else w1) (ix2 ⟨a.val / 8, by omega⟩ l)).extractLsb' (8 * (a.val % 4)) 8 := by
  unfold kCodes
  rw [bitcast_32_8_ix2 _ _ a l ⟨a.val / 4, by omega⟩ rfl]
  congr 1
  by_cases h : a.val / 4 % 2 = 0
  · rw [if_pos h]
    pointwise
    rw [dif_pos (by omega)]
    exact congrArg w0 (congrArg₂ ix2 (Fin.ext (by simp only; omega)) rfl)
  · rw [if_neg h]
    pointwise
    rw [dif_neg (by omega)]
    exact congrArg w1 (congrArg₂ ix2 (Fin.ext (by simp only; omega)) rfl)

/-- Eight nibbles in a word: byte `i` is the nibbles `2 i` and `2 i + 1`. -/
theorem word_byte (m : Fin 8 → BitVec 4) (i : Fin 4) :
    (((((((((0#32 ||| (m 0).setWidth 32 <<< 0) ||| (m 1).setWidth 32 <<< 4) ||| (m 2).setWidth 32 <<< 8) ||| (m 3).setWidth 32 <<< 12)
      ||| (m 4).setWidth 32 <<< 16) ||| (m 5).setWidth 32 <<< 20) ||| (m 6).setWidth 32 <<< 24) ||| (m 7).setWidth 32 <<< 28) : BitVec 32).extractLsb' (8 * i.val) 8
    = ((m ⟨2 * i.val, by omega⟩).setWidth 32 ||| (m ⟨2 * i.val + 1, by omega⟩).setWidth 32 <<< 4).setWidth 8 := by
  have past : ∀ (x : BitVec 4) (i : Nat), 4 ≤ i → x.getLsbD i = false := fun x i h => BitVec.getLsbD_of_ge x i h
  apply BitVec.eq_of_getLsbD_eq
  intro q hq
  match i with
  | 0 => interval_cases q <;> simp [BitVec.getLsbD_or, BitVec.getLsbD_shiftLeft, BitVec.getLsbD_setWidth, past]
  | 1 => interval_cases q <;> simp [BitVec.getLsbD_or, BitVec.getLsbD_shiftLeft, BitVec.getLsbD_setWidth, past]
  | 2 => interval_cases q <;> simp [BitVec.getLsbD_or, BitVec.getLsbD_shiftLeft, BitVec.getLsbD_setWidth, past]
  | 3 => interval_cases q <;> simp [BitVec.getLsbD_or, BitVec.getLsbD_shiftLeft, BitVec.getLsbD_setWidth, past]

theorem vWord_byte {s : Shape} (n : Fin 8 → IVec s 32) (x : s.Idx) (h : ∀ k, ∃ m : BitVec 4, n k x = m.setWidth 32) (i : Fin 4) :
    (vWord (n 0) (n 1) (n 2) (n 3) (n 4) (n 5) (n 6) (n 7) x).extractLsb' (8 * i.val) 8
      = (n ⟨2 * i.val, by omega⟩ x ||| n ⟨2 * i.val + 1, by omega⟩ x <<< 4).setWidth 8 := by
  choose m hm using h
  rw [hm, hm, ← word_byte m i]
  congr 1
  show ((((((((0#32 ||| n 0 x <<< 0) ||| n 1 x <<< 4) ||| n 2 x <<< 8) ||| n 3 x <<< 12) ||| n 4 x <<< 16) ||| n 5 x <<< 20) ||| n 6 x <<< 24) ||| n 7 x <<< 28) = _
  simp only [hm]

theorem slices16 : ∀ k : Fin 16, S16x16x512.Slices ![k.val, 0, 0] S1x16x512 := by decide

/-- Sixteen nibbles per block, as rows of bytes. -/
def kWords (n : Fin 16 → IVec S16x512 32) : IVec S128x512 8 :=
  kCodes (vWord (n 0) (n 1) (n 2) (n 3) (n 4) (n 5) (n 6) (n 7)) (vWord (n 8) (n 9) (n 10) (n 11) (n 12) (n 13) (n 14) (n 15))

theorem kWords_apply (n : Fin 16 → IVec S16x512 32) (a : Fin 128) (l : Fin 512)
    (h : ∀ k, ∃ m : BitVec 4, n k (ix2 ⟨a.val / 8, by omega⟩ l) = m.setWidth 32) :
    kWords n (ix2 a l) = (n ⟨a.val % 8 * 2, by omega⟩ (ix2 ⟨a.val / 8, by omega⟩ l)
      ||| n ⟨a.val % 8 * 2 + 1, by omega⟩ (ix2 ⟨a.val / 8, by omega⟩ l) <<< 4).setWidth 8 := by
  unfold kWords
  rw [kCodes_apply]
  by_cases h0 : a.val / 4 % 2 = 0
  · rw [if_pos h0]
    have e1 : (⟨a.val % 8 * 2, by omega⟩ : Fin 16) = ⟨2 * (a.val % 4), by omega⟩ := Fin.ext (by simp only; omega)
    have e2 : (⟨a.val % 8 * 2 + 1, by omega⟩ : Fin 16) = ⟨2 * (a.val % 4) + 1, by omega⟩ := Fin.ext (by simp only; omega)
    rw [e1, e2]
    exact vWord_byte (fun k : Fin 8 => n ⟨k.val, by omega⟩) _ (fun k => h _) ⟨a.val % 4, by omega⟩
  · rw [if_neg h0]
    have e1 : (⟨a.val % 8 * 2, by omega⟩ : Fin 16) = ⟨2 * (a.val % 4) + 8, by omega⟩ := Fin.ext (by simp only; omega)
    have e2 : (⟨a.val % 8 * 2 + 1, by omega⟩ : Fin 16) = ⟨2 * (a.val % 4) + 1 + 8, by omega⟩ := Fin.ext (by simp only; omega)
    rw [e1, e2]
    exact vWord_byte (fun k : Fin 8 => n ⟨k.val + 8, by omega⟩) _ (fun k => h _) ⟨a.val % 4, by omega⟩

theorem kB_apply (v : Vec Ideal S64x512 .i8) (o : Fin 4) (x : S16x512.Idx) :
    kB v (BitVec.ofNat 32 (8 * o.val)) x = BitVec.setWidth 32 ((v : S64x512.Idx → BitVec 8) (ix2 ⟨(x 0).val * 4 + o.val, by have : (x 0).val < 16 := (x 0).isLt; omega⟩ (x 1))) := by
  obtain ⟨a, l, rfl⟩ : ∃ (a : Fin 16) (l : Fin 512), x = ix2 a l := ⟨x 0, x 1, by funext c; match c with | ⟨0, _⟩ => rfl | ⟨1, _⟩ => rfl⟩
  have hs : (shapeCast S64x512 (v : Vec Ideal S64x512 .i8) shapeCasts_S64x512_S64x512 : S64x512.Idx → BitVec 8) = v := by
    funext j; pointwise
  unfold kB
  rw [hs]
  have ho : (BitVec.ofNat 32 (8 * o.val)).toNat = 8 * o.val := by rw [BitVec.toNat_ofNat]; omega
  apply BitVec.eq_of_getLsbD_eq
  intro q hq
  have hsh : ∀ wd : IVec S16x512 32, vByte wd (BitVec.ofNat 32 (8 * o.val)) (ix2 a l) = (wd (ix2 a l) >>> (8 * o.val)) &&& 255#32 := by
    intro wd
    show IntOp.andi (IntOp.shrui .vector (wd (ix2 a l)) (BitVec.ofNat 32 (8 * o.val))) 255#32 = _
    unfold IntOp.andi IntOp.shrui
    rw [ho, if_pos (by omega), BitVec.ushiftRight_eq', ho]
  have h255 : (255#32 : BitVec 32).getLsbD q = decide (q < 8) := by interval_cases q <;> rfl
  rw [hsh, BitVec.getLsbD_and, BitVec.getLsbD_ushiftRight, h255, BitVec.getLsbD_setWidth]
  by_cases h8 : q < 8
  · have := bitcast_8_32_getLsbD_ix2 v bitcasts_S64x512_w8_S16x512_w32 a l (8 * o.val + q) (by omega) ⟨a.val * 4 + o.val, by omega⟩ (by simp only; omega)
    have e : (8 * o.val + q) % 8 = q := by omega
    rw [e] at this
    simp only [h8, hq, decide_true, Bool.and_true, Bool.true_and]
    exact this
  · rw [BitVec.getLsbD_of_ge _ q (by omega)]
    simp [h8]

/-! ## Nibbles have four bits -/

theorem nib_four {s : Shape} (w : FVec Ideal s .f32) (x : s.Idx) : ∃ m : BitVec 4, vNib w (vIdx w) x = m.setWidth 32 := by
  obtain ⟨n, _, h, _⟩ := code_of w w (rQ w) (vIdx w) x x rfl (idx_round w w x x rfl)
  exact ⟨n, h⟩

theorem vU_real {s : Shape} (b : IVec s 32) (x : s.Idx) (y : BitVec 8) (h : b x = y.setWidth 32) : ∃ v : ℝ, 0 ≤ v ∧ vU b x = (v : EReal) := by
  refine ⟨((y.toNat : ℝ) + 1 / 2) * (1 / 256), by positivity, ?_⟩
  have e : FloatOps.sitofp (F := Ideal) FTy.f32 (b x) = ((y.toNat : ℝ) : EReal) := by
    show (((b x).toInt : ℝ) : EReal) = _
    have : (b x).toInt = y.toNat := by
      have hy := y.isLt
      rw [h, BitVec.toInt_eq_toNat_of_lt (by rw [BitVec.toNat_setWidth]; omega), BitVec.toNat_setWidth]
      omega
    rw [this]; norm_cast
  pointwise [vU]
  rw [e, ch, c256, ← EReal.coe_add, ← EReal.coe_mul]

theorem nib_fourS {s : Shape} (w : FVec Ideal s .f32) (b : IVec s 32) (x : s.Idx) (y : BitVec 8) (h : b x = y.setWidth 32) :
    ∃ m : BitVec 4, vNib w (vIdxS w b) x = m.setWidth 32 := by
  obtain ⟨v, h0, hv⟩ := vU_real b x y h
  obtain ⟨n, _, h, _⟩ := code_of w w (rQS w (vU b)) (vIdxS w b) x x rfl (idx_threshold w w b (vU b) x x rfl v h0 hv hv)
  exact ⟨n, h⟩

end Cert.KernelIdeal.Pieces

end
-- ==== Proof.Quant2.lean ====
/- The kernel's third region, which quantises x rounding to nearest: its three arrays as functions of the arrays it reads. -/
module

public import proofs.«01_k».proof.Proof.Gen.KernelIdeal.Frame
public import proofs.«01_k».proof.Proof.Pieces

@[expose] public section

set_option maxRecDepth 16384

noncomputable section
open Idealize.ShloMosaic Idealize.ShloMosaic.TcCoe Idealize.SL.Sem
open Idealize.ShloMosaic.Pipeline (Dat)
namespace Cert.KernelIdeal.Quant2
open Cert.KernelIdeal Cert.KernelIdeal.Gen
open Cert.Fp4 Cert.KernelIdeal.Pieces
variable (V : (c : Dev nD) → (b : Ref sig .tc) → Buf (Elt Ideal) ((c : Thread nD τ).loc b))

theorem idx : ∀ t : Fin cfg2.N, win2_0.index t = ![0] ∧ win2_1.index t = ![0, 0] ∧ win2_2.index t = ![t.val / 6, t.val % 6]
    ∧ win2_3.index t = ![t.val / 6, t.val % 6] ∧ win2_4.index t = ![t.val / 6, t.val % 6] ∧ win2_5.index t = ![t.val / 6, t.val % 6] :=
  (by decide +kernel : ∀ t : Fin grid2.N, _)

abbrev ts (c : Dev nD) : EReal := (V c main_v94 : FVec Ideal S1 .f32) (ix1 0)
abbrev xh (c : Dev nD) : FVec Ideal S18432x3072 .f32 := XH (N := 3072) (V c main_v88) (V c main_v0)

theorem xh_blk (c : Dev nD) (t : Fin cfg2.N) (k : Fin 16) (x : S16x512.Idx) (R : Fin 18432) (C : Fin 3072)
    (hR : R.val = t.val / 6 * 256 + k.val * 16 + (x 0).val) (hC : C.val = t.val % 6 * 512 + (x 1).val) :
    k2_pay1 (iblk2 V c 1 t) (iblk2 V c 2 t) (ix3 k (x 0) (x 1)) = xh V c (ix2 R C) := by
  pointwise [k2_pay1, XH]
  refine Finset.sum_congr rfl fun j _ => ?_
  blk_point [iblk2, idx t]
  all_goals (simp only [grpRow, inGrp]; omega)

theorem ts_blk (c : Dev nD) (t : Fin cfg2.N) (h1 h2) : View.ld (iblk2 V c 0 t) (Rect.unit (![0] : Fin S1.rank → ℕ) ![1] h1) (Shape.Idx.first h2) = ts V c := by
  refine (congrArg (iblk2 V c 0 t : FVec Ideal S1 .f32) (funext fun a => match a with
    | ⟨0, _⟩ => Subsingleton.elim (α := Fin 1) _ _) : _ = (iblk2 V c 0 t : FVec Ideal S1 .f32) (ix1 0)).trans ?_
  blk_point [iblk2, idx t]

theorem sc_blk (c : Dev nD) (t : Fin cfg2.N) (x : S16x512.Idx) (r : Fin 1152) (C : Fin 3072)
    (hr : r.val = t.val / 6 * 16 + (x 0).val) (hC : C.val = t.val % 6 * 512 + (x 1).val) :
    k2_pay2 (ts V c) (iblk2 V c 1 t) (iblk2 V c 2 t) x = SC (N := 3072) (ts V c) (xh V c) (ix2 r C) := by
  have e : ∀ k : Fin 16, k2_pay1 (iblk2 V c 1 t) (iblk2 V c 2 t) (ix3 k (x 0) (x 1)) = xh V c (ix2 (rowOf r k) C) := fun k =>
    xh_blk V c t k x _ C (by have : (x 0).val < 16 := (x 0).isLt; simp only [rowOf]; omega) hC
  pointwise [k2_pay2, SC]
  simp only [e]

theorem w_blk (c : Dev nD) (t : Fin cfg2.N) (k : ℕ) (h) (hk : k < 16) (x : S16x512.Idx) (R : Fin 18432) (C : Fin 3072)
    (hR : R.val = t.val / 6 * 256 + k * 16 + (x 0).val) (hC : C.val = t.val % 6 * 512 + (x 1).val) :
    kW (k2_pay1 (iblk2 V c 1 t) (iblk2 V c 2 t)) (k2_pay4 (ts V c) (iblk2 V c 1 t) (iblk2 V c 2 t)) k h x = WW (N := 3072) (ts V c) (xh V c) (ix2 R C) := by
  have hb : (blkOf R).val = t.val / 6 * 16 + (x 0).val := by have : (x 0).val < 16 := (x 0).isLt; simp only [blkOf]; omega
  have hs := sc_blk V c t x (blkOf R) C hb hC
  rw [kW_apply _ _ _ _ hk, xh_blk V c t ⟨k, hk⟩ x R C hR hC]
  exact congrArg (fun a : EReal => xh V c (ix2 R C) * a) (vR_congr hs rfl)

theorem dq_core (c : Dev nD) (t : Fin cfg2.N) (k : ℕ) (h) (hk : k < 16) (x : S16x512.Idx) (R : Fin 18432) (C : Fin 3072)
    (hR : R.val = t.val / 6 * 256 + k * 16 + (x 0).val) (hC : C.val = t.val % 6 * 512 + (x 1).val) :
    kDq (k2_pay1 (iblk2 V c 1 t) (iblk2 V c 2 t)) (k2_pay4 (ts V c) (iblk2 V c 1 t) (iblk2 V c 2 t)) (k2_pay3 (ts V c) (iblk2 V c 1 t) (iblk2 V c 2 t)) k h x
      = vDq (WW (N := 3072) (ts V c) (xh V c)) (vIdx (WW (N := 3072) (ts V c) (xh V c))) (SR (SC (N := 3072) (ts V c) (xh V c))) (ix2 R C) := by
  have hb : (blkOf R).val = t.val / 6 * 16 + (x 0).val := by have : (x 0).val < 16 := (x 0).isLt; simp only [blkOf]; omega
  have hs := sc_blk V c t x (blkOf R) C hb hC
  have hw := w_blk V c t k h hk x R C hR hC
  exact vDq_congr hw (vIdx_congr hw) hs

theorem final5 (c : Dev nD) : (dat2 V c).arrAt 5 cfg2.N =
    vDq (WW (N := 3072) (ts V c) (xh V c)) (vIdx (WW (N := 3072) (ts V c) (xh V c))) (SR (SC (N := 3072) (ts V c) (xh V c))) := by
  refine (dat2 V c).arrAt_eq_of_covers 5 _ (by decide +kernel) fun t hf y => ?_
  blk_simp
  have hy0 : (y 0).val < 256 := (y 0).isLt
  have hy1 : (y 1).val < 512 := (y 1).isLt
  have ht : t.val < 432 := t.isLt
  have he : ((View.whole main_v104_2).slice (win2_5.rect t)).emb y = ix2 (⟨t.val / 6 * 256 + (y 0).val, by omega⟩ : Fin 18432) (⟨t.val % 6 * 512 + (y 1).val, by omega⟩ : Fin 3072) := by
    blk_point [idx t]
  rw [he, after2_5]
  unfold Gen.outsAt2
  frame_out
  simp only [ts_blk]
  canon_tiles x h
  all_goals exact dq_core V c t _ _ (by decide) x _ _ (by simp only; omega) (by simp only; omega)

theorem final4 (c : Dev nD) : (dat2 V c).arrAt 4 cfg2.N = SC (N := 3072) (ts V c) (xh V c) := by
  refine (dat2 V c).arrAt_eq_of_covers 4 _ (by decide +kernel) fun t hf y => ?_
  blk_simp
  have hy0 : (y 0).val < 16 := (y 0).isLt
  have hy1 : (y 1).val < 512 := (y 1).isLt
  have ht : t.val < 432 := t.isLt
  have he : ((View.whole main_v104_1).slice (win2_4.rect t)).emb y = ix2 (⟨t.val / 6 * 16 + (y 0).val, by omega⟩ : Fin 1152) (⟨t.val % 6 * 512 + (y 1).val, by omega⟩ : Fin 3072) := by
    blk_point [idx t]
  rw [he, after2_4]
  unfold Gen.outsAt2
  frame_out
  simp only [ts_blk]
  exact sc_blk V c t y _ _ (by simp only) (by simp only)

/-- The four bits of every element. -/
abbrev nib (c : Dev nD) : IVec S18432x3072 32 := vNib (WW (N := 3072) (ts V c) (xh V c)) (vIdx (WW (N := 3072) (ts V c) (xh V c)))

theorem nib_blk (c : Dev nD) (t : Fin cfg2.N) (k : ℕ) (h) (hk : k < 16) (x : S16x512.Idx) (R : Fin 18432) (C : Fin 3072)
    (hR : R.val = t.val / 6 * 256 + k * 16 + (x 0).val) (hC : C.val = t.val % 6 * 512 + (x 1).val) :
    kNib (k2_pay1 (iblk2 V c 1 t) (iblk2 V c 2 t)) (k2_pay4 (ts V c) (iblk2 V c 1 t) (iblk2 V c 2 t)) k h x = nib V c (ix2 R C) :=
  have hw := w_blk V c t k h hk x R C hR hC
  vNib_congr hw (vIdx_congr hw)

theorem final3 (c : Dev nD) : (dat2 V c).arrAt 3 cfg2.N = CODES (N := 3072) (nib V c) := by
  refine (dat2 V c).arrAt_eq_of_covers 3 _ (by decide +kernel) fun t hf y => ?_
  blk_simp
  have hy0 : (y 0).val < 128 := (y 0).isLt
  have hy1 : (y 1).val < 512 := (y 1).isLt
  have ht : t.val < 432 := t.isLt
  have he : ((View.whole main_v104_0).slice (win2_3.rect t)).emb y = ix2 (⟨t.val / 6 * 128 + (y 0).val, by omega⟩ : Fin 9216) (⟨t.val % 6 * 512 + (y 1).val, by omega⟩ : Fin 3072) := by
    blk_point [idx t]
  rw [he, after2_3]
  unfold Gen.outsAt2
  frame_out
  simp only [ts_blk]
  show kWords (fun k => kNib (k2_pay1 (iblk2 V c 1 t) (iblk2 V c 2 t)) (k2_pay4 (ts V c) (iblk2 V c 1 t) (iblk2 V c 2 t)) k.val (slices16 k)) y = _
  obtain ⟨a, l, rfl⟩ : ∃ (a : Fin 128) (l : Fin 512), y = ix2 a l := ⟨y 0, y 1, by funext c; match c with | ⟨0, _⟩ => rfl | ⟨1, _⟩ => rfl⟩
  refine (kWords_apply _ a l (fun k => by unfold kNib; exact nib_four _ _)).trans ?_
  have hn := fun (k : Fin 16) => nib_blk V c t k.val (slices16 k) k.isLt (ix2 ⟨a.val / 8, by omega⟩ l)
  simp only [ix2_0, ix2_1] at hn hy0 hy1 ⊢
  unfold CODES
  rw [hn ⟨a.val % 8 * 2, by omega⟩ (loRow ⟨t.val / 6 * 128 + a.val, by omega⟩) ⟨t.val % 6 * 512 + l.val, by omega⟩ (by simp only [loRow, rowOf]; omega) rfl,
    hn ⟨a.val % 8 * 2 + 1, by omega⟩ (hiRow ⟨t.val / 6 * 128 + a.val, by omega⟩) ⟨t.val % 6 * 512 + l.val, by omega⟩ (by simp only [hiRow, rowOf]; omega) rfl]
  rfl

end Cert.KernelIdeal.Quant2
end
-- ==== Proof.Quant3.lean ====
/- The kernel's fourth region, which quantises dy rounding by random bytes: its three arrays as functions of the arrays it reads. -/
module

public import proofs.«01_k».proof.Proof.Gen.KernelIdeal.Frame
public import proofs.«01_k».proof.Proof.Pieces

@[expose] public section

set_option maxRecDepth 16384

noncomputable section
open Idealize.ShloMosaic Idealize.ShloMosaic.TcCoe Idealize.SL.Sem
open Idealize.ShloMosaic.Pipeline (Dat)
namespace Cert.KernelIdeal.Quant3
open Cert.KernelIdeal Cert.KernelIdeal.Gen
open Cert.Fp4 Cert.KernelIdeal.Pieces
variable (V : (c : Dev nD) → (b : Ref sig .tc) → Buf (Elt Ideal) ((c : Thread nD τ).loc b))

theorem idx : ∀ t : Fin cfg3.N, win3_0.index t = ![0] ∧ win3_1.index t = ![0, 0] ∧ win3_2.index t = ![t.val / 16, t.val % 16]
    ∧ win3_3.index t = ![t.val / 16, t.val % 16]
    ∧ win3_4.index t = ![t.val / 16, t.val % 16] ∧ win3_5.index t = ![t.val / 16, t.val % 16] ∧ win3_6.index t = ![t.val / 16, t.val % 16] :=
  (by decide +kernel : ∀ t : Fin grid3.N, _)

abbrev ts (c : Dev nD) : EReal := (V c main_v100 : FVec Ideal S1 .f32) (ix1 0)
abbrev xh (c : Dev nD) : FVec Ideal S18432x8192 .f32 := XH (N := 8192) (V c main_v88) (V c main_v1)

/-- The random bytes, row by row. -/
abbrev bb (c : Dev nD) : IVec S18432x8192 32 := BB (N := 8192) (V c main_v103)

theorem xh_blk (c : Dev nD) (t : Fin cfg3.N) (k : Fin 16) (x : S16x512.Idx) (R : Fin 18432) (C : Fin 8192)
    (hR : R.val = t.val / 16 * 256 + k.val * 16 + (x 0).val) (hC : C.val = t.val % 16 * 512 + (x 1).val) :
    k3_pay3 (iblk3 V c 1 t) (iblk3 V c 2 t) (ix3 k (x 0) (x 1)) = xh V c (ix2 R C) := by
  pointwise [k3_pay3, XH]
  refine Finset.sum_congr rfl fun j _ => ?_
  blk_point [iblk3, idx t]
  all_goals (simp only [grpRow, inGrp]; omega)

theorem bits_blk (c : Dev nD) (t : Fin cfg3.N) (k b : ℕ) (hin : ∀ a, (![b, 0] : Fin S256x512.rank → ℕ) a + (![64, 512] : Fin S256x512.rank → ℕ) a ≤ S256x512.size a) (o : BitVec 32)
    (hk : k < 16) (hb : b = k / 4 * 64) (ho : o = BitVec.ofNat 32 (8 * (k % 4))) (x : S16x512.Idx) (R : Fin 18432) (C : Fin 8192)
    (hR : R.val = t.val / 16 * 256 + k * 16 + (x 0).val) (hC : C.val = t.val % 16 * 512 + (x 1).val) :
    kB (View.ld (iblk3 V c 3 t) (Rect.unit ![b, 0] ![64, 512] hin)) o x = bb V c (ix2 R C) := by
  have hx0 : (x 0).val < 16 := (x 0).isLt
  subst hb ho
  rw [kB_apply _ ⟨k % 4, by omega⟩ x]
  show _ = BitVec.setWidth 32 _
  congr 1
  simp only [View.ld]
  blk_point [iblk3, idx t]
  all_goals (simp only [bitOf]; omega)

theorem ts_blk (c : Dev nD) (t : Fin cfg3.N) (h1 h2) : View.ld (iblk3 V c 0 t) (Rect.unit (![0] : Fin S1.rank → ℕ) ![1] h1) (Shape.Idx.first h2) = ts V c := by
  refine (congrArg (iblk3 V c 0 t : FVec Ideal S1 .f32) (funext fun a => match a with
    | ⟨0, _⟩ => Subsingleton.elim (α := Fin 1) _ _) : _ = (iblk3 V c 0 t : FVec Ideal S1 .f32) (ix1 0)).trans ?_
  blk_point [iblk3, idx t]

theorem sc_blk (c : Dev nD) (t : Fin cfg3.N) (x : S16x512.Idx) (r : Fin 1152) (C : Fin 8192)
    (hr : r.val = t.val / 16 * 16 + (x 0).val) (hC : C.val = t.val % 16 * 512 + (x 1).val) :
    k3_pay4 (ts V c) (iblk3 V c 1 t) (iblk3 V c 2 t) x = SC (N := 8192) (ts V c) (xh V c) (ix2 r C) := by
  have e : ∀ k : Fin 16, k3_pay3 (iblk3 V c 1 t) (iblk3 V c 2 t) (ix3 k (x 0) (x 1)) = xh V c (ix2 (rowOf r k) C) := fun k =>
    xh_blk V c t k x _ C (by have : (x 0).val < 16 := (x 0).isLt; simp only [rowOf]; omega) hC
  pointwise [k3_pay4, SC]
  simp only [e]

theorem w_blk (c : Dev nD) (t : Fin cfg3.N) (k : ℕ) (h) (hk : k < 16) (x : S16x512.Idx) (R : Fin 18432) (C : Fin 8192)
    (hR : R.val = t.val / 16 * 256 + k * 16 + (x 0).val) (hC : C.val = t.val % 16 * 512 + (x 1).val) :
    kW (k3_pay3 (iblk3 V c 1 t) (iblk3 V c 2 t)) (k3_pay6 (ts V c) (iblk3 V c 1 t) (iblk3 V c 2 t)) k h x = WW (N := 8192) (ts V c) (xh V c) (ix2 R C) := by
  have hb : (blkOf R).val = t.val / 16 * 16 + (x 0).val := by have : (x 0).val < 16 := (x 0).isLt; simp only [blkOf]; omega
  have hs := sc_blk V c t x (blkOf R) C hb hC
  rw [kW_apply _ _ _ _ hk, xh_blk V c t ⟨k, hk⟩ x R C hR hC]
  exact congrArg (fun a : EReal => xh V c (ix2 R C) * a) (vR_congr hs rfl)

theorem dq_core (c : Dev nD) (t : Fin cfg3.N) (k b : ℕ) (h) (hin) (o : BitVec 32) (hk : k < 16) (hb : b = k / 4 * 64) (ho : o = BitVec.ofNat 32 (8 * (k % 4)))
    (x : S16x512.Idx) (R : Fin 18432) (C : Fin 8192)
    (hR : R.val = t.val / 16 * 256 + k * 16 + (x 0).val) (hC : C.val = t.val % 16 * 512 + (x 1).val) :
    kDqS (k3_pay3 (iblk3 V c 1 t) (iblk3 V c 2 t)) (k3_pay6 (ts V c) (iblk3 V c 1 t) (iblk3 V c 2 t)) (k3_pay5 (ts V c) (iblk3 V c 1 t) (iblk3 V c 2 t)) k h
      (View.ld (iblk3 V c 3 t) (Rect.unit ![b, 0] ![64, 512] hin)) o x
      = vDq (WW (N := 8192) (ts V c) (xh V c)) (vIdxS (WW (N := 8192) (ts V c) (xh V c)) (bb V c)) (SR (SC (N := 8192) (ts V c) (xh V c))) (ix2 R C) := by
  have hbk : (blkOf R).val = t.val / 16 * 16 + (x 0).val := by have : (x 0).val < 16 := (x 0).isLt; simp only [blkOf]; omega
  have hs := sc_blk V c t x (blkOf R) C hbk hC
  have hw := w_blk V c t k h hk x R C hR hC
  have hv := bits_blk V c t k b hin o hk hb ho x R C hR hC
  exact vDq_congr hw (vIdxS_congr hw hv) hs

set_option maxHeartbeats 4000000 in
theorem final6 (c : Dev nD) : (dat3 V c).arrAt 6 cfg3.N =
    vDq (WW (N := 8192) (ts V c) (xh V c)) (vIdxS (WW (N := 8192) (ts V c) (xh V c)) (bb V c)) (SR (SC (N := 8192) (ts V c) (xh V c))) := by
  refine (dat3 V c).arrAt_eq_of_covers 6 _ (by decide +kernel) fun t hf y => ?_
  blk_simp
  have hy0 : (y 0).val < 256 := (y 0).isLt
  have hy1 : (y 1).val < 512 := (y 1).isLt
  have ht : t.val < 1152 := t.isLt
  have he : ((View.whole main_v105_2).slice (win3_6.rect t)).emb y = ix2 (⟨t.val / 16 * 256 + (y 0).val, by omega⟩ : Fin 18432) (⟨t.val % 16 * 512 + (y 1).val, by omega⟩ : Fin 8192) := by
    blk_point [idx t]
  rw [he, after3_6]
  unfold Gen.outsAt3
  frame_out
  simp only [ts_blk]
  canon_tiles x h
  all_goals exact dq_core V c t _ _ _ _ _ (by decide) (by decide) (by decide) x _ _ (by simp only; omega) (by simp only; omega)

theorem final5 (c : Dev nD) : (dat3 V c).arrAt 5 cfg3.N = SC (N := 8192) (ts V c) (xh V c) := by
  refine (dat3 V c).arrAt_eq_of_covers 5 _ (by decide +kernel) fun t hf y => ?_
  blk_simp
  have hy0 : (y 0).val < 16 := (y 0).isLt
  have hy1 : (y 1).val < 512 := (y 1).isLt
  have ht : t.val < 1152 := t.isLt
  have he : ((View.whole main_v105_1).slice (win3_5.rect t)).emb y = ix2 (⟨t.val / 16 * 16 + (y 0).val, by omega⟩ : Fin 1152) (⟨t.val % 16 * 512 + (y 1).val, by omega⟩ : Fin 8192) := by
    blk_point [idx t]
  rw [he, after3_5]
  unfold Gen.outsAt3
  frame_out
  simp only [ts_blk]
  exact sc_blk V c t y _ _ (by simp only) (by simp only)

/-- The four bits of every element. -/
abbrev nib (c : Dev nD) : IVec S18432x8192 32 := vNib (WW (N := 8192) (ts V c) (xh V c)) (vIdxS (WW (N := 8192) (ts V c) (xh V c)) (bb V c))

theorem hin16 : ∀ k : Fin 16, ∀ a, (![k.val / 4 * 64, 0] : Fin S256x512.rank → ℕ) a + (![64, 512] : Fin S256x512.rank → ℕ) a ≤ S256x512.size a := by decide

/-- The nibbles of one block of rows. -/
def nibs (c : Dev nD) (t : Fin cfg3.N) (k : Fin 16) : IVec S16x512 32 :=
  kNibS (k3_pay3 (iblk3 V c 1 t) (iblk3 V c 2 t)) (k3_pay6 (ts V c) (iblk3 V c 1 t) (iblk3 V c 2 t))
    (View.ld (iblk3 V c 3 t) (Rect.unit ![k.val / 4 * 64, 0] ![64, 512] (hin16 k))) (BitVec.ofNat 32 (8 * (k.val % 4))) k.val (slices16 k)

theorem nib_blk (c : Dev nD) (t : Fin cfg3.N) (k : Fin 16) (x : S16x512.Idx) (R : Fin 18432) (C : Fin 8192)
    (hR : R.val = t.val / 16 * 256 + k.val * 16 + (x 0).val) (hC : C.val = t.val % 16 * 512 + (x 1).val) :
    nibs V c t k x = nib V c (ix2 R C) :=
  have hw := w_blk V c t k.val (slices16 k) k.isLt x R C hR hC
  vNib_congr hw (vIdxS_congr hw (bits_blk V c t k.val _ (hin16 k) _ k.isLt rfl rfl x R C hR hC))

theorem nib_byte (c : Dev nD) (i) : ∃ m : BitVec 4, nib V c i = m.setWidth 32 := nib_fourS _ _ _ _ rfl

set_option maxHeartbeats 4000000 in
theorem final4 (c : Dev nD) : (dat3 V c).arrAt 4 cfg3.N = CODES (N := 8192) (nib V c) := by
  refine (dat3 V c).arrAt_eq_of_covers 4 _ (by decide +kernel) fun t hf y => ?_
  blk_simp
  have hy0 : (y 0).val < 128 := (y 0).isLt
  have hy1 : (y 1).val < 512 := (y 1).isLt
  have ht : t.val < 1152 := t.isLt
  have he : ((View.whole main_v105_0).slice (win3_4.rect t)).emb y = ix2 (⟨t.val / 16 * 128 + (y 0).val, by omega⟩ : Fin 9216) (⟨t.val % 16 * 512 + (y 1).val, by omega⟩ : Fin 8192) := by
    blk_point [idx t]
  rw [he, after3_4]
  unfold Gen.outsAt3
  frame_out
  simp only [ts_blk]
  show kWords (nibs V c t) y = _
  obtain ⟨a, l, rfl⟩ : ∃ (a : Fin 128) (l : Fin 512), y = ix2 a l := ⟨y 0, y 1, by funext c; match c with | ⟨0, _⟩ => rfl | ⟨1, _⟩ => rfl⟩
  have hn := fun (k : Fin 16) => nib_blk V c t k (ix2 ⟨a.val / 8, by omega⟩ l)
  simp only [ix2_0, ix2_1] at hn hy0 hy1 ⊢
  refine (kWords_apply _ a l (fun k => by
    rw [hn k (rowOf ⟨t.val / 16 * 16 + a.val / 8, by omega⟩ k) ⟨t.val % 16 * 512 + l.val, by omega⟩ (by simp only [rowOf]; omega) rfl]
    exact nib_byte V c _)).trans ?_
  unfold CODES
  rw [hn ⟨a.val % 8 * 2, by omega⟩ (loRow ⟨t.val / 16 * 128 + a.val, by omega⟩) ⟨t.val % 16 * 512 + l.val, by omega⟩ (by simp only [loRow, rowOf]; omega) rfl,
    hn ⟨a.val % 8 * 2 + 1, by omega⟩ (hiRow ⟨t.val / 16 * 128 + a.val, by omega⟩) ⟨t.val % 16 * 512 + l.val, by omega⟩ (by simp only [hiRow, rowOf]; omega) rfl]
  rfl

end Cert.KernelIdeal.Quant3
end
-- ==== Proof.Wgrad.lean ====
/- The kernel's last region: the weight gradient, a product of the two dequantised arrays accumulated over 24 blocks of
   rows and scaled at the last one, is one sum over all rows times the scale. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Wgrad

open Cert.KernelIdeal Cert.KernelIdeal.Gen

variable (V : (c : Dev nD) → (b : Ref sig .tc) → Buf (Elt Ideal) ((c : Thread nD τ).loc b))

/-- The product over all rows, scaled. -/
def REF (s : FVec Ideal S1 .f32) (a : FVec Ideal S18432x8192 .bf16) (b : FVec Ideal S18432x3072 .bf16) : FVec Ideal S8192x3072 .f32 :=
  fun i => (∑ r : Fin 18432, a (ix2 r (i 0)) * b (ix2 r (i 1))) * s (ix1 0)

theorem hzero (j) : k4_pay1 (F := Ideal) j = 0 := by pointwise [k4_pay1]

theorem hpay (acc : FVec Ideal S1024x3072 .f32) (x1 : FVec Ideal S768x1024 .bf16) (x2 : FVec Ideal S768x3072 .bf16) (j) :
    k4_pay2 acc x1 x2 j = acc j + ∑ k : Fin 768, x1 (ix2 k (j 0)) * x2 (ix2 k (j 1)) := by pointwise [k4_pay2]

theorem hscale (acc : FVec Ideal S1024x3072 .f32) (s : EReal) (j) : k4_pay3 (F := Ideal) acc s j = acc j * s := by
  pointwise [k4_pay3]

theorem idx : ∀ t : Fin cfg4.N, win4_0.index t = ![0] ∧ win4_1.index t = ![t.val % 24, t.val / 24] ∧ win4_2.index t = ![t.val % 24, 0]
    ∧ win4_3.index t = ![t.val / 24, 0] :=
  (by decide +kernel : ∀ t : Fin grid4.N, _)

/-- What the accumulator holds before the scaling of the last point of a run: the kit's contents, and at a last point the sum
    without its scale. -/
def acc (c : Dev nD) (n : ℕ) (h : n < cfg4.N) : Vec Ideal S1024x3072 .f32 :=
  if n % 24 = 23 then k4_pay2 (outsAt4 V c (n - 1) (Nat.lt_of_le_of_lt (Nat.sub_le _ _) h)) (iblk4 V c 1 ⟨n, h⟩) (iblk4 V c 2 ⟨n, h⟩)
  else outsAt4 V c n h

theorem final (c : Dev nD) : (dat4 V c).arrAt 3 cfg4.N = REF (V c main_v106) (V c main_v105_2) (V c main_v104_2) := by
  refine (dat4 V c).arrAt_eq_of_covers 3 _ (by decide +kernel) fun t hf y => ?_
  blk_simp
  have hl := (flush4_3 t).mp hf
  have h0 : ¬ t.val % 24 = 0 := by omega
  have hacc : outsAt4 V c t.val t.isLt = k4_pay3 (acc V c t.val t.isLt) ((iblk4 V c 0 t : FVec Ideal S1 .f32) (ix1 0)) := by
    rw [outsAt4_C V c t h0 hl]
    frame_out
    unfold acc
    rw [if_pos hl]
    refine congrArg (k4_pay3 (F := Ideal) _) (congrArg (iblk4 V c 0 t : FVec Ideal S1 .f32) (funext fun a => ?_))
    match a with
    | ⟨0, _⟩ => exact Subsingleton.elim (α := Fin 1) _ _
  rw [after4_3, hacc, hscale,
    Pipeline.eq_sum_fin_of_reset_step_apply_of_flush (fun n h => acc V c n h) 24 (fun _ => 0)
      (fun p j => ∑ k : Fin 768, (show FVec Ideal S768x1024 .bf16 from iblk4 V c 1 p) (ix2 k (j 0)) * (show FVec Ideal S768x3072 .bf16 from iblk4 V c 2 p) (ix2 k (j 1)))
    (fun t h j => by
      have h1 : ¬ t.val % 24 = 23 := by omega
      unfold acc; rw [if_neg h1, outsAt4_A V c t h h1]; frame_out; rw [hpay, hzero])
    (fun t h j => by
      by_cases h1 : t.val % 24 = 23
      · have h2 : ¬ (t.val - 1) % 24 = 23 := by omega
        unfold acc; rw [if_pos h1, if_neg h2, hpay]
      · have h2 : ¬ (t.val - 1) % 24 = 23 := by omega
        unfold acc; rw [if_neg h1, if_neg h2, outsAt4_B V c t h h1]; frame_out; rw [hpay])
    t hl _, zero_add]
  unfold REF
  refine congrArg₂ (fun a b : EReal => a * b) ?_ ?_
  · refine Fin.sum_mul_add_congr fun s k hl' => ?_
    blk_point [iblk4, idx t, idx ⟨_, Pipeline.run_point_lt_of_flush t ((flush4_3 t).mp hf) s⟩]
  · blk_point [iblk4, idx t]

end Cert.KernelIdeal.Wgrad

end
-- ==== Proof.RefCommon.lean ====
/- The order of the reference's rows against the kernels', and what the reference does to one element of a block. -/
module

public import proofs.«01_k».proof.Proof.Scalar
public import proofs.«01_k».proof.Proof.Blocks

@[expose] public section

set_option maxRecDepth 16384

noncomputable section

namespace Cert.Fp4

open Idealize.ShloMosaic Idealize.ShloMosaic.TcCoe Idealize.ShloMosaic.Tactic

/-- The number of a block, and the row of its element. -/
def nb (b : Fin 24) (k : Fin 48) : Fin 1152 := ⟨b.val * 48 + k.val, by omega⟩
def inBlk (k : Fin 48) (i : Fin 16) : Fin 768 := ⟨k.val * 16 + i.val, by omega⟩
/-- A row of the codes. -/
def cRow (b : Fin 24) (k : Fin 384) : Fin 9216 := ⟨b.val * 384 + k.val, by omega⟩
/-- The two elements of a byte. -/
def el0 (p : Fin 8) : Fin 16 := ⟨p.val * 2, by omega⟩
def el1 (p : Fin 8) : Fin 16 := ⟨p.val * 2 + 1, by omega⟩

theorem blkOf_rowOf (r : Fin 1152) (i : Fin 16) : blkOf (rowOf r i) = r := by
  apply Fin.ext; simp only [blkOf, rowOf]; omega

theorem loRow_cRow (b : Fin 24) (k : Fin 48) (p : Fin 8) (K : Fin 384) (h : K.val = k.val * 8 + p.val) : loRow (cRow b K) = rowOf (nb b k) (el0 p) := by
  apply Fin.ext; simp only [loRow, cRow, rowOf, nb, el0]; omega
theorem hiRow_cRow (b : Fin 24) (k : Fin 48) (p : Fin 8) (K : Fin 384) (h : K.val = k.val * 8 + p.val) : hiRow (cRow b K) = rowOf (nb b k) (el1 p) := by
  apply Fin.ext; simp only [hiRow, cRow, rowOf, nb, el1]; omega

/-- The two nibbles of a byte. -/
def byte (a b : BitVec 32) : BitVec 8 := (IntOp.ori a (IntOp.shli .vector b 4#32)).setWidth 8

theorem byte_lo (a b : BitVec 4) : IntOp.andi ((byte (a.setWidth 32) (b.setWidth 32)).setWidth 32) 15#32 = a.setWidth 32 := by
  have : ∀ a b : Fin 16, IntOp.andi ((byte ((BitVec.ofFin (w := 4) a).setWidth 32) ((BitVec.ofFin (w := 4) b).setWidth 32)).setWidth 32) 15#32 = (BitVec.ofFin (w := 4) a).setWidth 32 := by
    decide +kernel
  exact this a.toFin b.toFin
theorem byte_hi (a b : BitVec 4) : IntOp.shrsi .vector ((byte (a.setWidth 32) (b.setWidth 32)).setWidth 32) 4#32 = b.setWidth 32 := by
  have : ∀ a b : Fin 16, IntOp.shrsi .vector ((byte ((BitVec.ofFin (w := 4) a).setWidth 32) ((BitVec.ofFin (w := 4) b).setWidth 32)).setWidth 32) 4#32 = (BitVec.ofFin (w := 4) b).setWidth 32 := by
    decide +kernel
  exact this a.toFin b.toFin

/-- Dividing by the block's denominator, or multiplying by its reciprocal. -/
theorem WW_apply {N : ℕ} (ts : EReal) (hts : ts ≠ 0) (h : FVec Ideal (sh 18432 N) .f32) (r : Fin 1152) (i : Fin 16) (c : Fin N) (S v : EReal)
    (hS : S = SC ts h (ix2 r c)) (hv : v = h (ix2 (rowOf r i) c)) :
    (if S = 0 then 0 else Ideal.div v (if S = 0 then 1 else S * ts)) = WW ts h (ix2 (rowOf r i) c) := by
  subst hS hv
  show _ = h _ * vR (SC ts h) (fun _ => ts) (ix2 (blkOf (rowOf r i)) c)
  rw [blkOf_rowOf]
  generalize SC ts h = S
  pointwise [vR]
  by_cases hS : S (ix2 r c) = 0
  · simp [hS]
  · have : S (ix2 r c) * ts ≠ 0 := mul_ne_zero hS hts
    simp [hS, Ideal.div, this]

end Cert.Fp4

end
-- ==== Proof.Tensor.lean ====
/- The transform of a whole tensor and its scale: the kernels' order of rows against the reference's. -/
module

public import proofs.«01_k».proof.Proof.RefCommon
public import proofs.«01_k».proof.Proof.Hadamard

@[expose] public section

set_option maxRecDepth 16384

noncomputable section

namespace Cert.Fp4

open Idealize.ShloMosaic

/-- A tensor of three axes. -/
abbrev sh3 (a b c : ℕ) : Shape := ⟨3, ![a, b, c]⟩

/-- The transform matrix of sixteen rows. -/
def qh (s : Fin 16 → EReal) (i j : Fin 16) : EReal := hs i j * s j * Ideal.ofBits .f32 1048576000#32
/-- The transform, block by block. -/
def TX {N : ℕ} (s : Fin 16 → EReal) (X : FVec Ideal (sh3 24 768 N) .bf16) (b : Fin 24) (k : Fin 48) (i : Fin 16) (c : Fin N) : EReal :=
  ∑ j : Fin 16, X (ix3 b (inBlk k j) c) * qh s i j

def joinRow (a b : Fin 16) : Fin 256 := ⟨a.val * 16 + b.val, by omega⟩

/-- Of the 256 products only the block's sixteen are not zero. -/
theorem sum_block (s : Fin 16 → EReal) (r : Fin 256) (f : Fin 256 → EReal) :
    ∑ j : Fin 256, QN s r j * f j = ∑ j : Fin 16, f (joinRow (hi16 r) j) * qh s (lo16 r) j := by
  have e : ∑ j : Fin 256, QN s r j * f j = ∑ p : Fin 16 × Fin 16, QN s r (joinRow p.1 p.2) * f (joinRow p.1 p.2) := by
    refine (Fintype.sum_equiv (finProdFinEquiv (m := 16) (n := 16)) _ _ fun p => ?_).symm
    have : joinRow p.1 p.2 = finProdFinEquiv (m := 16) (n := 16) p := Fin.ext (by simp [joinRow, finProdFinEquiv]; omega)
    rw [this]
  have hh : ∀ a b, hi16 (joinRow a b) = a := fun a b => Fin.ext (by simp only [hi16, joinRow]; omega)
  have hl : ∀ a b, lo16 (joinRow a b) = b := fun a b => Fin.ext (by simp only [lo16, joinRow]; omega)
  rw [e, Fintype.sum_prod_type, Finset.sum_eq_single (hi16 r)]
  · refine Finset.sum_congr rfl fun j _ => ?_
    simp only [QN, hh, hl, qh]
    rw [if_pos trivial]
    rw [mul_comm]
  · intro a _ ha
    refine Finset.sum_eq_zero fun j _ => ?_
    simp only [QN, hh, hl]
    rw [if_neg (fun h => ha h.symm), zero_mul, zero_mul, zero_mul]
  · intro h; exact absurd (Finset.mem_univ _) h

/-- The row of an element in the tensor's own order. -/
def natRow (b : Fin 24) (k : Fin 48) (i : Fin 16) : Fin 18432 := ⟨b.val * 768 + k.val * 16 + i.val, by omega⟩

theorem div768 (r : Fin 18432) : r.val / 768 < 24 := by omega
theorem mod768 (r : Fin 18432) : r.val % 768 < 768 := by omega

section
variable {N : ℕ} (s : Fin 16 → EReal) (q : FVec Ideal (sh 256 256) .bf16) (x : FVec Ideal (sh 18432 N) .bf16) (X : FVec Ideal (sh3 24 768 N) .bf16)
  (hX : ∀ (r : Fin 18432) (c : Fin N), x (ix2 r c) = X (ix3 ⟨r.val / 768, div768 r⟩ ⟨r.val % 768, mod768 r⟩ c))
include hX

theorem XH_nat (hq : ∀ r k : Fin 256, q (ix2 r k) = QN s (id r) k) (b k i c) : XH q x (ix2 (natRow b k i) c) = TX s X b k i c := by
  show ∑ j : Fin 256, q (ix2 (inGrp (natRow b k i)) j) * x (ix2 (grpRow (natRow b k i) j) c) = _
  simp only [hq, id]
  rw [sum_block s (inGrp (natRow b k i)) (fun j => x (ix2 (grpRow (natRow b k i) j) c))]
  refine Finset.sum_congr rfl fun j _ => ?_
  rw [hX]
  have e1 : lo16 (inGrp (natRow b k i)) = i := Fin.ext (by simp only [lo16, inGrp, natRow]; omega)
  have e2 : (⟨(grpRow (natRow b k i) (joinRow (hi16 (inGrp (natRow b k i))) j)).val / 768, by omega⟩ : Fin 24) = b :=
    Fin.ext (by simp only [grpRow, joinRow, hi16, inGrp, natRow]; omega)
  have e3 : (⟨(grpRow (natRow b k i) (joinRow (hi16 (inGrp (natRow b k i))) j)).val % 768, by omega⟩ : Fin 768) = inBlk k j :=
    Fin.ext (by simp only [grpRow, joinRow, hi16, inGrp, natRow, inBlk]; omega)
  rw [e1, e2, e3]

theorem XH_perm (hq : ∀ r k : Fin 256, q (ix2 r k) = QN s (perm16 r) k) (b k i c) : XH q x (ix2 (rowOf (nb b k) i) c) = TX s X b k i c := by
  show ∑ j : Fin 256, q (ix2 (inGrp (rowOf (nb b k) i)) j) * x (ix2 (grpRow (rowOf (nb b k) i) j) c) = _
  simp only [hq]
  rw [sum_block s (perm16 (inGrp (rowOf (nb b k) i))) (fun j => x (ix2 (grpRow (rowOf (nb b k) i) j) c))]
  refine Finset.sum_congr rfl fun j _ => ?_
  rw [hX]
  have g : ∀ r : Fin 1152, perm16 (inGrp (rowOf r i)) = joinRow ⟨r.val % 16, by omega⟩ i := fun r =>
    Fin.ext (by simp only [perm16, inGrp, rowOf, joinRow]; omega)
  have g' : ∀ (r : Fin 1152) (j : Fin 256), (grpRow (rowOf r i) j).val = r.val / 16 * 256 + j.val := fun r j => by
    simp only [grpRow, rowOf]; omega
  rw [g (nb b k)]
  have e1 : lo16 (joinRow ⟨(nb b k).val % 16, by omega⟩ i) = i := Fin.ext (by simp only [lo16, joinRow]; omega)
  have e0 : hi16 (joinRow ⟨(nb b k).val % 16, by omega⟩ i) = ⟨(nb b k).val % 16, by omega⟩ := Fin.ext (by simp only [hi16, joinRow]; omega)
  rw [e1, e0]
  have e2 : (⟨(grpRow (rowOf (nb b k) i) (joinRow ⟨(nb b k).val % 16, by omega⟩ j)).val / 768, by omega⟩ : Fin 24) = b :=
    Fin.ext (by simp only [g']; simp only [joinRow, nb]; omega)
  have e3 : (⟨(grpRow (rowOf (nb b k) i) (joinRow ⟨(nb b k).val % 16, by omega⟩ j)).val % 768, by omega⟩ : Fin 768) = inBlk k j :=
    Fin.ext (by simp only [g']; simp only [joinRow, nb, inBlk]; omega)
  rw [e2, e3]

end

/-! ## The scale of a tensor -/

/-- The scale, from the largest magnitude. -/
def TS (a : EReal) : EReal := if 0 < a then Ideal.div a (Ideal.ofBits .f32 1160249344#32) else 1

theorem c2688 : Ideal.ofBits .f32 1160249344#32 = ((2688 : ℝ) : EReal) := by
  simp [Ideal.ofBits, Ideal.ieee, -EReal.coe_mul]; norm_num

theorem TS_ne (a : EReal) : TS a ≠ 0 := by
  unfold TS
  split_ifs with h
  · have h2 : ((2688 : ℝ) : EReal) ≠ 0 := by norm_cast
    rw [c2688, Ideal.div, if_neg h2]
    refine mul_ne_zero h.ne' ?_
    rw [← EReal.coe_inv]
    have : (2688 : ℝ)⁻¹ ≠ 0 := by norm_num
    exact_mod_cast this
  · exact one_ne_zero

theorem sel_TS (a : EReal) : Scalar.select (BitVec.ofBool (decide (0 < a))) (Ideal.div a (Ideal.ofBits .f32 1160249344#32)) (Ideal.ofBits .f32 0x3F800000#32) = TS a := by
  unfold TS Scalar.select
  by_cases h : 0 < a
  · simp [h]
  · have e : Ideal.ofBits .f32 0x3F800000#32 = (1 : EReal) := by rw [c1]; simp [Ideal.ofBits, Ideal.ieee, -EReal.coe_mul, -EReal.coe_one]; norm_num
    simp [h, e]

/-- The largest magnitude of a tensor. -/
def amr {N : ℕ} (g : Fin 24 → Fin 48 → Fin 16 → Fin N → EReal) : EReal :=
  Finset.fold max (Ideal.ofBits .f32 4286578688#32) (fun k : Fin 24 × Fin 768 × Fin N =>
    FloatOps.absf (F := Ideal) (φ := .f32) (g k.1 ⟨k.2.1.val / 16, by omega⟩ ⟨k.2.1.val % 16, by omega⟩ k.2.2)) Finset.univ

theorem bot_bits : Ideal.ofBits .f32 4286578688#32 = (⊥ : EReal) := by
  simp [Ideal.ofBits, Ideal.ieee]

theorem amr_le {N : ℕ} (g : Fin 24 → Fin 48 → Fin 16 → Fin N → EReal) (β : EReal) :
    amr g ≤ β ↔ ∀ b k i c, FloatOps.absf (F := Ideal) (φ := .f32) (g b k i c) ≤ β := by
  unfold amr
  rw [Finset.fold_max_le, bot_bits]
  constructor
  · rintro ⟨-, h⟩ b k i c
    have := h (b, inBlk k i, c) (Finset.mem_univ _)
    have e1 : (⟨(inBlk k i).val / 16, by omega⟩ : Fin 48) = k := Fin.ext (by simp only [inBlk]; omega)
    have e2 : (⟨(inBlk k i).val % 16, by omega⟩ : Fin 16) = i := Fin.ext (by simp only [inBlk]; omega)
    simpa only [e1, e2] using this
  · intro h
    exact ⟨bot_le, fun k _ => h _ _ _ _⟩

/-- Two bounds of the same magnitudes are the same. -/
theorem amax_eq {N : ℕ} (a a' : EReal) (h : FVec Ideal (sh 18432 N) .f32) (g : Fin 24 → Fin 48 → Fin 16 → Fin N → EReal)
    (hg : ∀ b k i c, h (ix2 (natRow b k i) c) = g b k i c)
    (ha : ∀ β : EReal, a ≤ β ↔ 0 ≤ β ∧ ∀ (R : Fin 18432) (C : Fin N), FloatOps.absf (F := Ideal) (φ := .f32) (h (ix2 R C)) ≤ β)
    (ha' : ∀ β : EReal, a' ≤ β ↔ ∀ b k i c, FloatOps.absf (F := Ideal) (φ := .f32) (g b k i c) ≤ β) (hN : 0 < N) : a = a' := by
  have key : ∀ β, a ≤ β ↔ a' ≤ β := by
    intro β
    rw [ha, ha']
    constructor
    · intro h b k i c
      rw [← hg]; exact h.2 _ _
    · intro hh
      have h2 : ∀ (R : Fin 18432) (C : Fin N), FloatOps.absf (F := Ideal) (φ := .f32) (h (ix2 R C)) ≤ β := by
        intro R C
        have e : R = natRow ⟨R.val / 768, by omega⟩ ⟨R.val % 768 / 16, by omega⟩ ⟨R.val % 16, by omega⟩ := Fin.ext (by simp only [natRow]; omega)
        rw [e, hg]; exact hh _ _ _ _
      refine ⟨le_trans ?_ (h2 0 ⟨0, hN⟩), h2⟩
      generalize h (ix2 0 ⟨0, hN⟩) = y
      show (0 : EReal) ≤ max y (-y)
      rcases le_total 0 y with hy | hy
      · exact le_max_of_le_left hy
      · exact le_max_of_le_right (EReal.neg_nonneg.2 hy)
  exact le_antisymm ((key _).2 le_rfl) ((key _).1 le_rfl)

end Cert.Fp4

end
-- ==== Proof.HostK2.lean ====
/- The kernel's host values between its regions. -/
module

public import proofs.«01_k».proof.Proof.HostK
public import proofs.«01_k».proof.Proof.Amax
public import proofs.«01_k».proof.Proof.Quant2
public import proofs.«01_k».proof.Proof.Quant3
public import proofs.«01_k».proof.Proof.Wgrad
public import proofs.«01_k».proof.Proof.Tensor

@[expose] public section

set_option maxRecDepth 16384

noncomputable section

namespace Cert.KernelIdeal.Host

open Idealize.ShloMosaic Idealize.ShloMosaic.TcCoe Idealize.ShloMosaic.Tactic
open Cert.KernelIdeal Cert.KernelIdeal.Gen Cert.Fp4

variable (m : (ℓ : Loc nD τ sig) → Buf (Elt Ideal) ℓ) (ρ : Dev nD → PrngReg)

theorem v0_1 (c : Dev nD) (r : Fin 18432) (k : Fin 3072) : (W1 m ρ c main_v0 : FVec Ideal S18432x3072 .bf16) (ix2 r k) =
    (m ((c : Thread nD τ).loc main_arg0) : FVec Ideal S24x768x3072 .bf16) (ix3 ⟨r.val / 768, by omega⟩ ⟨r.val % 768, by omega⟩ k) := by
  show (StableHlo.after hostOps0 (W0 m ρ c) main_v0 : FVec Ideal S18432x3072 .bf16) (ix2 r k) = _
  after_reads_at

theorem v1_1 (c : Dev nD) (r : Fin 18432) (k : Fin 8192) : (W1 m ρ c main_v1 : FVec Ideal S18432x8192 .bf16) (ix2 r k) =
    (m ((c : Thread nD τ).loc main_arg1) : FVec Ideal S24x768x8192 .bf16) (ix3 ⟨r.val / 768, by omega⟩ ⟨r.val % 768, by omega⟩ k) := by
  show (StableHlo.after hostOps0 (W0 m ρ c) main_v1 : FVec Ideal S18432x8192 .bf16) (ix2 r k) = _
  after_reads_at

theorem v2_1 (c : Dev nD) (r : Fin 18432) (k : Fin 8192) : (W1 m ρ c main_v2 : IVec S18432x8192 8) (ix2 r k) =
    (m ((c : Thread nD τ).loc main_arg3) : IVec S24x768x8192 8) (ix3 ⟨r.val / 768, by omega⟩ ⟨r.val % 768, by omega⟩ k) := by
  show (StableHlo.after hostOps0 (W0 m ρ c) main_v2 : IVec S18432x8192 8) (ix2 r k) = _
  after_reads_at

/-! ## What the stretches and the regions keep -/

theorem keep11 (c : Dev nD) (r : Ref sig .tc) (h : ∀ l ∈ [hostOps0_1_W, hostOps0_2_W, hostOps0_3_W, hostOps0_4_W, hostOps0_5_W, hostOps0_6_W, hostOps0_7_W, hostOps0_8_W, hostOps0_9_W, hostOps0_10_W], r ∉ l) : W11 m ρ c (Proc.devRef .tc r) = W1 m ρ c (Proc.devRef .tc r) := by
  rw [W11_of m ρ c r (h _ (by simp)), W10_of m ρ c r (h _ (by simp)), W9_of m ρ c r (h _ (by simp)), W8_of m ρ c r (h _ (by simp)), W7_of m ρ c r (h _ (by simp)), W6_of m ρ c r (h _ (by simp)), W5_of m ρ c r (h _ (by simp)), W4_of m ρ c r (h _ (by simp)), W3_of m ρ c r (h _ (by simp)), W2_of m ρ c r (h _ (by simp))]
theorem keep25 (c : Dev nD) (r : Ref sig .tc) (h : ∀ l ∈ [hostOps0_11_W, hostOps0_12_W, hostOps0_13_W, hostOps0_14_W, hostOps0_15_W, hostOps0_16_W, hostOps0_17_W, hostOps0_18_W, hostOps0_19_W, hostOps0_20_W, hostOps0_21_W, hostOps0_22_W, hostOps0_23_W, hostOps0_24_W], r ∉ l) : W25 m ρ c (Proc.devRef .tc r) = W11 m ρ c (Proc.devRef .tc r) := by
  rw [W25_of m ρ c r (h _ (by simp)), W24_of m ρ c r (h _ (by simp)), W23_of m ρ c r (h _ (by simp)), W22_of m ρ c r (h _ (by simp)), W21_of m ρ c r (h _ (by simp)), W20_of m ρ c r (h _ (by simp)), W19_of m ρ c r (h _ (by simp)), W18_of m ρ c r (h _ (by simp)), W17_of m ρ c r (h _ (by simp)), W16_of m ρ c r (h _ (by simp)), W15_of m ρ c r (h _ (by simp)), W14_of m ρ c r (h _ (by simp)), W13_of m ρ c r (h _ (by simp)), W12_of m ρ c r (h _ (by simp))]
theorem keep29 (c : Dev nD) (r : Ref sig .tc) (h : ∀ l ∈ [hostOps1_W, hostOps1_1_W, hostOps1_2_W], r ∉ l)
    (h0 : ∀ w : Fin cfg0.W, Pipeline.arrRef spec0 w = r → (cfg0.win w).isOut = false) : W29 m ρ c (Proc.devRef .tc r) = W25 m ρ c (Proc.devRef .tc r) := by
  rw [W29_of m ρ c r (h _ (by simp)), W28_of m ρ c r (h _ (by simp)), W27_of m ρ c r (h _ (by simp)), W26_of m ρ c r h0]
theorem keep33 (c : Dev nD) (r : Ref sig .tc) (h : ∀ l ∈ [hostOps2_W, hostOps2_1_W, hostOps2_2_W], r ∉ l)
    (h0 : ∀ w : Fin cfg1.W, Pipeline.arrRef spec1 w = r → (cfg1.win w).isOut = false) : W33 m ρ c (Proc.devRef .tc r) = W29 m ρ c (Proc.devRef .tc r) := by
  rw [W33_of m ρ c r (h _ (by simp)), W32_of m ρ c r (h _ (by simp)), W31_of m ρ c r (h _ (by simp)), W30_of m ρ c r h0]

theorem v0_25 (c : Dev nD) : W25 m ρ c main_v0 = W1 m ρ c main_v0 := (keep25 m ρ c main_v0 (by decide)).trans (keep11 m ρ c main_v0 (by decide))
theorem v1_25 (c : Dev nD) : W25 m ρ c main_v1 = W1 m ρ c main_v1 := (keep25 m ρ c main_v1 (by decide)).trans (keep11 m ρ c main_v1 (by decide))
theorem v2_25 (c : Dev nD) : W25 m ρ c main_v2 = W1 m ρ c main_v2 := (keep25 m ρ c main_v2 (by decide)).trans (keep11 m ρ c main_v2 (by decide))
theorem v43_25 (c : Dev nD) : W25 m ρ c main_v43 = W11 m ρ c main_v43 := keep25 m ρ c main_v43 (by decide)

theorem v43_29 (c : Dev nD) : W29 m ρ c main_v43 = W25 m ρ c main_v43 := keep29 m ρ c main_v43 (by decide) (by decide +kernel)
theorem v1_29 (c : Dev nD) : W29 m ρ c main_v1 = W25 m ρ c main_v1 := keep29 m ρ c main_v1 (by decide) (by decide +kernel)
theorem v0_33 (c : Dev nD) : W33 m ρ c main_v0 = W25 m ρ c main_v0 := (keep33 m ρ c main_v0 (by decide) (by decide +kernel)).trans (keep29 m ρ c main_v0 (by decide) (by decide +kernel))
theorem v1_33 (c : Dev nD) : W33 m ρ c main_v1 = W25 m ρ c main_v1 := (keep33 m ρ c main_v1 (by decide) (by decide +kernel)).trans (keep29 m ρ c main_v1 (by decide) (by decide +kernel))
theorem v88_33 (c : Dev nD) : W33 m ρ c main_v88 = W25 m ρ c main_v88 := (keep33 m ρ c main_v88 (by decide) (by decide +kernel)).trans (keep29 m ρ c main_v88 (by decide) (by decide +kernel))
theorem v94_33 (c : Dev nD) : W33 m ρ c main_v94 = W29 m ρ c main_v94 := keep33 m ρ c main_v94 (by decide) (by decide +kernel)
theorem v2_32 (c : Dev nD) : W32 m ρ c main_v2 = W25 m ρ c main_v2 := by
  rw [W32_of m ρ c main_v2 (by decide), W31_of m ρ c main_v2 (by decide), W30_of m ρ c main_v2 (by decide +kernel), keep29 m ρ c main_v2 (by decide) (by decide +kernel)]
theorem v1_34 (c : Dev nD) : W34 m ρ c main_v1 = W25 m ρ c main_v1 := (W34_of m ρ c main_v1 (by decide +kernel)).trans (v1_33 m ρ c)
theorem v88_34 (c : Dev nD) : W34 m ρ c main_v88 = W25 m ρ c main_v88 := (W34_of m ρ c main_v88 (by decide +kernel)).trans (v88_33 m ρ c)
theorem v100_34 (c : Dev nD) : W34 m ρ c main_v100 = W33 m ρ c main_v100 := W34_of m ρ c main_v100 (by decide +kernel)
theorem v103_34 (c : Dev nD) : W34 m ρ c main_v103 = W33 m ρ c main_v103 := W34_of m ρ c main_v103 (by decide +kernel)
theorem v94_38 (c : Dev nD) : W38 m ρ c main_v94 = W33 m ρ c main_v94 := by
  rw [W38_of m ρ c main_v94 (by decide), W37_of m ρ c main_v94 (by decide +kernel), W36_of m ρ c main_v94 (by decide), W35_of m ρ c main_v94 (by decide +kernel), W34_of m ρ c main_v94 (by decide +kernel)]
theorem v100_38 (c : Dev nD) : W38 m ρ c main_v100 = W33 m ρ c main_v100 := by
  rw [W38_of m ρ c main_v100 (by decide), W37_of m ρ c main_v100 (by decide +kernel), W36_of m ρ c main_v100 (by decide), W35_of m ρ c main_v100 (by decide +kernel), W34_of m ρ c main_v100 (by decide +kernel)]
theorem v94_35 (c : Dev nD) : W35 m ρ c main_v94 = W33 m ρ c main_v94 := by
  rw [W35_of m ρ c main_v94 (by decide +kernel), W34_of m ρ c main_v94 (by decide +kernel)]
theorem v100_35 (c : Dev nD) : W35 m ρ c main_v100 = W33 m ρ c main_v100 := by
  rw [W35_of m ρ c main_v100 (by decide +kernel), W34_of m ρ c main_v100 (by decide +kernel)]
/-- The regions' results where they are read. -/
theorem v104_37 (c : Dev nD) (w : Fin cfg2.W) (h5 : ∀ w', Pipeline.arrRef spec3 w' ≠ Pipeline.arrRef spec2 w)
    (h4 : ∀ w', Pipeline.arrRef spec4 w' = Pipeline.arrRef spec2 w → (cfg4.win w').isOut = false) (h : Pipeline.arrRef spec2 w ∉ hostOps4_W) :
    W37 m ρ c (Proc.devRef .tc (Pipeline.arrRef spec2 w)) = (dat2 (V33 m ρ) c).arrAt w cfg2.N := by
  rw [W37_of m ρ c _ h4, W36_of m ρ c _ h, W35_of_ne m ρ c _ h5, W34_arr]
theorem v104_36 (c : Dev nD) (w : Fin cfg2.W) (h5 : ∀ w', Pipeline.arrRef spec3 w' ≠ Pipeline.arrRef spec2 w) (h : Pipeline.arrRef spec2 w ∉ hostOps4_W) :
    W36 m ρ c (Proc.devRef .tc (Pipeline.arrRef spec2 w)) = (dat2 (V33 m ρ) c).arrAt w cfg2.N := by
  rw [W36_of m ρ c _ h, W35_of_ne m ρ c _ h5, W34_arr]
theorem v105_36 (c : Dev nD) (w : Fin cfg3.W) (h : Pipeline.arrRef spec3 w ∉ hostOps4_W) :
    W36 m ρ c (Proc.devRef .tc (Pipeline.arrRef spec3 w)) = (dat3 (V34 m ρ) c).arrAt w cfg3.N := by
  rw [W36_of m ρ c _ h, W35_arr]
theorem v105_37 (c : Dev nD) (w : Fin cfg3.W) (h : Pipeline.arrRef spec3 w ∉ hostOps4_W)
    (h4 : ∀ w', Pipeline.arrRef spec4 w' = Pipeline.arrRef spec3 w → (cfg4.win w').isOut = false) :
    W37 m ρ c (Proc.devRef .tc (Pipeline.arrRef spec3 w)) = (dat3 (V34 m ρ) c).arrAt w cfg3.N := by
  rw [W37_of m ρ c _ h4, W36_of m ρ c _ h, W35_arr]

/-! ## The tensors' scales -/

/-- The largest magnitude of a tensor, over a region's result. -/
def am (o : FVec Ideal S8x128 .f32) : EReal := Finset.fold max (Ideal.ofBits .f32 4286578688#32) (fun k : Fin 8 × Fin 128 => o (ix2 k.1 k.2)) Finset.univ

theorem am_le (o : FVec Ideal S8x128 .f32) (β : EReal) : am o ≤ β ↔ ∀ j, o j ≤ β := by
  unfold am
  rw [Finset.fold_max_le]
  constructor
  · rintro ⟨-, h⟩ j
    rw [show j = ix2 (j 0) (j 1) from by funext a; fin_cases a <;> rfl]
    exact h (j 0, j 1) (Finset.mem_univ _)
  · intro h
    exact ⟨by rw [show Ideal.ofBits .f32 4286578688#32 = (⊥ : EReal) from Cert.KernelIdeal.Amax.neg_inf]; exact bot_le, fun k _ => h _⟩

theorem cst_26 (c : Dev nD) : (W27 m ρ c main_cst_26 : FVec Ideal S_ .f32) ix0 = Ideal.ofBits .f32 0x3F800000#32 := by
  show (StableHlo.after hostOps1 (W26 m ρ c) main_cst_26 : FVec Ideal S_ .f32) ix0 = _
  generalize W26 m ρ c = W at *
  after_reads_at
theorem v91 (c : Dev nD) : (W27 m ρ c main_v91 : IVec S_ 1) ix0 = BitVec.ofBool (decide (0 < am (Amax.out0 (V25 m ρ) c))) := by
  have h : W26 m ρ c main_v89 = Amax.out0 (V25 m ρ) c := W26_arr m ρ c 2
  generalize Amax.out0 (V25 m ρ) c = A at *
  show (StableHlo.after hostOps1 (W26 m ρ c) main_v91 : IVec S_ 1) ix0 = _
  generalize W26 m ρ c = W at *
  after_reads_at
  rw [h]
  rfl
theorem v92 (c : Dev nD) : (W27 m ρ c main_v92 : FVec Ideal S_ .f32) ix0 = Ideal.div (am (Amax.out0 (V25 m ρ) c)) (Ideal.ofBits .f32 1160249344#32) := by
  have h : W26 m ρ c main_v89 = Amax.out0 (V25 m ρ) c := W26_arr m ρ c 2
  generalize Amax.out0 (V25 m ρ) c = A at *
  show (StableHlo.after hostOps1 (W26 m ρ c) main_v92 : FVec Ideal S_ .f32) ix0 = _
  generalize W26 m ρ c = W at *
  after_reads_at
  rw [h]
  rfl
theorem v93 (c : Dev nD) : (W28 m ρ c main_v93 : FVec Ideal S_ .f32) ix0 = TS (am (Amax.out0 (V25 m ρ) c)) := by
  have e0 := cst_26 m ρ c
  have e1 := v91 m ρ c
  have e2 := v92 m ρ c
  generalize am (Amax.out0 (V25 m ρ) c) = A at *
  show (StableHlo.after hostOps1_1 (W27 m ρ c) main_v93 : FVec Ideal S_ .f32) ix0 = _
  generalize W27 m ρ c = W at *
  after_reads_at
  show Scalar.select (W main_v91 ix0) (W main_v92 ix0) (W main_cst_26 ix0) = _
  rw [e0, e1, e2]
  exact sel_TS A
theorem v94 (c : Dev nD) (i) : (W29 m ρ c main_v94 : FVec Ideal S1 .f32) i = TS (am (Amax.out0 (V25 m ρ) c)) := by
  have e3 := v93 m ρ c
  generalize am (Amax.out0 (V25 m ρ) c) = A at *
  show (StableHlo.after hostOps1_2 (W28 m ρ c) main_v94 : FVec Ideal S1 .f32) i = _
  generalize W28 m ρ c = W at *
  after_reads_at
  exact e3

theorem cst_30 (c : Dev nD) : (W31 m ρ c main_cst_30 : FVec Ideal S_ .f32) ix0 = Ideal.ofBits .f32 0x3F800000#32 := by
  show (StableHlo.after hostOps2 (W30 m ρ c) main_cst_30 : FVec Ideal S_ .f32) ix0 = _
  generalize W30 m ρ c = W at *
  after_reads_at
theorem v97 (c : Dev nD) : (W31 m ρ c main_v97 : IVec S_ 1) ix0 = BitVec.ofBool (decide (0 < am (Amax.out1 (V29 m ρ) c))) := by
  have h : W30 m ρ c main_v95 = Amax.out1 (V29 m ρ) c := W30_arr m ρ c 2
  generalize Amax.out1 (V29 m ρ) c = A at *
  show (StableHlo.after hostOps2 (W30 m ρ c) main_v97 : IVec S_ 1) ix0 = _
  generalize W30 m ρ c = W at *
  after_reads_at
  rw [h]
  rfl
theorem v98 (c : Dev nD) : (W31 m ρ c main_v98 : FVec Ideal S_ .f32) ix0 = Ideal.div (am (Amax.out1 (V29 m ρ) c)) (Ideal.ofBits .f32 1160249344#32) := by
  have h : W30 m ρ c main_v95 = Amax.out1 (V29 m ρ) c := W30_arr m ρ c 2
  generalize Amax.out1 (V29 m ρ) c = A at *
  show (StableHlo.after hostOps2 (W30 m ρ c) main_v98 : FVec Ideal S_ .f32) ix0 = _
  generalize W30 m ρ c = W at *
  after_reads_at
  rw [h]
  rfl
theorem v99 (c : Dev nD) : (W32 m ρ c main_v99 : FVec Ideal S_ .f32) ix0 = TS (am (Amax.out1 (V29 m ρ) c)) := by
  have e0 := cst_30 m ρ c
  have e1 := v97 m ρ c
  have e2 := v98 m ρ c
  generalize am (Amax.out1 (V29 m ρ) c) = A at *
  show (StableHlo.after hostOps2_1 (W31 m ρ c) main_v99 : FVec Ideal S_ .f32) ix0 = _
  generalize W31 m ρ c = W at *
  after_reads_at
  show Scalar.select (W main_v97 ix0) (W main_v98 ix0) (W main_cst_30 ix0) = _
  rw [e0, e1, e2]
  exact sel_TS A
theorem v100 (c : Dev nD) (i) : (W33 m ρ c main_v100 : FVec Ideal S1 .f32) i = TS (am (Amax.out1 (V29 m ρ) c)) := by
  have e3 := v99 m ρ c
  generalize am (Amax.out1 (V29 m ρ) c) = A at *
  show (StableHlo.after hostOps2_2 (W32 m ρ c) main_v100 : FVec Ideal S1 .f32) i = _
  generalize W32 m ρ c = W at *
  after_reads_at
  exact e3

theorem v103 (c : Dev nD) (r : Fin 18432) (k : Fin 8192) : (W33 m ρ c main_v103 : IVec S18432x8192 8) (ix2 r k) =
    (m ((c : Thread nD τ).loc main_arg3) : IVec S24x768x8192 8)
      (ix3 ⟨(r.val / 256 * 256 + r.val / 4 % 16 * 16 + r.val / 64 % 4 * 4 + r.val % 4) / 768, by omega⟩ ⟨(r.val / 256 * 256 + r.val / 4 % 16 * 16 + r.val / 64 % 4 * 4 + r.val % 4) % 768, by omega⟩ k) := by
  have h2 := v2_1 m ρ c
  rw [← v2_25, ← v2_32] at h2
  show (StableHlo.after hostOps2_2 (W32 m ρ c) main_v103 : IVec S18432x8192 8) (ix2 r k) = _
  generalize W32 m ρ c = W at *
  after_reads_at
  exact h2 _ _

/-! ## The results' reshapes -/

theorem v106 (c : Dev nD) (i) : (W36 m ρ c main_v106 : FVec Ideal S1 .f32) i = mulf (F := Ideal) (s := S1) (φ := .f32) (W35 m ρ c main_v94) (W35 m ρ c main_v100) i := by
  show (StableHlo.after hostOps4 (W35 m ρ c) main_v106 : FVec Ideal S1 .f32) i = _
  generalize W35 m ρ c = W at *
  after_reads_at
theorem v108 (c : Dev nD) (b : Fin 24) (k : Fin 384) (d : Fin 3072) : (W38 m ρ c main_v108 : IVec S24x384x3072 8) (ix3 b k d) = (W37 m ρ c main_v104_0 : IVec S9216x3072 8) (ix2 (cRow b k) d) := by
  show (StableHlo.after hostOps5 (W37 m ρ c) main_v108 : IVec S24x384x3072 8) (ix3 b k d) = _
  generalize W37 m ρ c = W at *
  after_reads_at
  rfl
theorem v109 (c : Dev nD) (b : Fin 24) (k : Fin 48) (d : Fin 3072) : (W38 m ρ c main_v109 : FVec Ideal S24x48x3072 .fp8e4m3) (ix3 b k d) = (W37 m ρ c main_v104_1 : FVec Ideal S1152x3072 .fp8e4m3) (ix2 (nb b k) d) := by
  show (StableHlo.after hostOps5 (W37 m ρ c) main_v109 : FVec Ideal S24x48x3072 .fp8e4m3) (ix3 b k d) = _
  generalize W37 m ρ c = W at *
  after_reads_at
  rfl
theorem v110 (c : Dev nD) (b : Fin 24) (k : Fin 384) (d : Fin 8192) : (W38 m ρ c main_v110 : IVec S24x384x8192 8) (ix3 b k d) = (W37 m ρ c main_v105_0 : IVec S9216x8192 8) (ix2 (cRow b k) d) := by
  show (StableHlo.after hostOps5 (W37 m ρ c) main_v110 : IVec S24x384x8192 8) (ix3 b k d) = _
  generalize W37 m ρ c = W at *
  after_reads_at
  rfl
theorem v111 (c : Dev nD) (b : Fin 24) (k : Fin 48) (d : Fin 8192) : (W38 m ρ c main_v111 : FVec Ideal S24x48x8192 .fp8e4m3) (ix3 b k d) = (W37 m ρ c main_v105_1 : FVec Ideal S1152x8192 .fp8e4m3) (ix2 (nb b k) d) := by
  show (StableHlo.after hostOps5 (W37 m ρ c) main_v111 : FVec Ideal S24x48x8192 .fp8e4m3) (ix3 b k d) = _
  generalize W37 m ρ c = W at *
  after_reads_at
  rfl

end Cert.KernelIdeal.Host

end
-- ==== Proof.KernelValue.lean ====
/- The kernel's results, in terms of its arguments. -/
module

public import proofs.«01_k».proof.Proof.HostK2
public import proofs.«01_k».proof.Proof.RefCommon

@[expose] public section

set_option maxRecDepth 16384

noncomputable section

namespace Cert.KernelIdeal.Host

open Idealize.ShloMosaic Idealize.ShloMosaic.TcCoe Idealize.ShloMosaic.Tactic
open Cert.KernelIdeal Cert.KernelIdeal.Gen Cert.Fp4

variable (m : (ℓ : Loc nD τ sig) → Buf (Elt Ideal) ℓ) (ρ : Dev nD → PrngReg)

/-- The transformed tensors. -/
def gx (c : Dev nD) : Fin 24 → Fin 48 → Fin 16 → Fin 3072 → EReal := TX (N := 3072) (sg m c) (m ((c : Thread nD τ).loc main_arg0))
def gy (c : Dev nD) : Fin 24 → Fin 48 → Fin 16 → Fin 8192 → EReal := TX (N := 8192) (sg m c) (m ((c : Thread nD τ).loc main_arg1))

theorem nat_x (c : Dev nD) (b k i) (d : Fin 3072) : Amax.xh0 (V25 m ρ) c (ix2 (natRow b k i) d) = gx m c b k i d := by
  have hq : ∀ r k : Fin 256, (V25 m ρ c main_v43 : FVec Ideal S256x256 .bf16) (ix2 r k) = QN (sg m c) (id r) k := fun r k =>
    (congrFun (v43_25 m ρ c) (ix2 r k)).trans (v43 m ρ c r k)
  have hX : ∀ (r : Fin 18432) (d : Fin 3072), (V25 m ρ c main_v0 : FVec Ideal S18432x3072 .bf16) (ix2 r d) =
      (m ((c : Thread nD τ).loc main_arg0) : FVec Ideal S24x768x3072 .bf16) (ix3 ⟨r.val / 768, by omega⟩ ⟨r.val % 768, by omega⟩ d) := fun r d =>
    (congrFun (v0_25 m ρ c) (ix2 r d)).trans (v0_1 m ρ c r d)
  unfold gx Amax.xh0
  generalize (V25 m ρ c main_v43 : FVec Ideal S256x256 .bf16) = q at *
  generalize (V25 m ρ c main_v0 : FVec Ideal S18432x3072 .bf16) = y at *
  exact XH_nat (sg m c) q y _ hX hq b k i d

theorem perm_x (c : Dev nD) (b k i) (d : Fin 3072) : Quant2.xh (V33 m ρ) c (ix2 (rowOf (nb b k) i) d) = gx m c b k i d := by
  have hq : ∀ r k : Fin 256, (V33 m ρ c main_v88 : FVec Ideal S256x256 .bf16) (ix2 r k) = QN (sg m c) (perm16 r) k := fun r k =>
    (congrFun (v88_33 m ρ c) (ix2 r k)).trans (v88 m ρ c r k)
  have hX : ∀ (r : Fin 18432) (d : Fin 3072), (V33 m ρ c main_v0 : FVec Ideal S18432x3072 .bf16) (ix2 r d) =
      (m ((c : Thread nD τ).loc main_arg0) : FVec Ideal S24x768x3072 .bf16) (ix3 ⟨r.val / 768, by omega⟩ ⟨r.val % 768, by omega⟩ d) := fun r d =>
    (congrFun ((v0_33 m ρ c).trans (v0_25 m ρ c)) (ix2 r d)).trans (v0_1 m ρ c r d)
  unfold gx Quant2.xh
  generalize (V33 m ρ c main_v88 : FVec Ideal S256x256 .bf16) = q at *
  generalize (V33 m ρ c main_v0 : FVec Ideal S18432x3072 .bf16) = y at *
  exact XH_perm (sg m c) q y _ hX hq b k i d

theorem amax_x (c : Dev nD) : am (Amax.out0 (V25 m ρ) c) = amr (gx m c) :=
  amax_eq _ _ (Amax.xh0 (V25 m ρ) c) (gx m c) (nat_x m ρ c) (fun β => (am_le _ β).trans (Amax.final0 (V25 m ρ) c β)) (fun β => amr_le _ β) (by decide)

theorem ts_x (c : Dev nD) (i) : (W33 m ρ c main_v94 : FVec Ideal S1 .f32) i = TS (amr (gx m c)) := by
  rw [← amax_x m ρ c, ← v94 m ρ c i]
  rw [v94_33]

theorem nat_y (c : Dev nD) (b k i) (d : Fin 8192) : Amax.xh1 (V29 m ρ) c (ix2 (natRow b k i) d) = gy m c b k i d := by
  have hq : ∀ r k : Fin 256, (V29 m ρ c main_v43 : FVec Ideal S256x256 .bf16) (ix2 r k) = QN (sg m c) (id r) k := fun r k =>
    (congrFun ((v43_29 m ρ c).trans (v43_25 m ρ c)) (ix2 r k)).trans (v43 m ρ c r k)
  have hX : ∀ (r : Fin 18432) (d : Fin 8192), (V29 m ρ c main_v1 : FVec Ideal S18432x8192 .bf16) (ix2 r d) =
      (m ((c : Thread nD τ).loc main_arg1) : FVec Ideal S24x768x8192 .bf16) (ix3 ⟨r.val / 768, by omega⟩ ⟨r.val % 768, by omega⟩ d) := fun r d =>
    (congrFun ((v1_29 m ρ c).trans (v1_25 m ρ c)) (ix2 r d)).trans (v1_1 m ρ c r d)
  unfold gy Amax.xh1
  generalize (V29 m ρ c main_v43 : FVec Ideal S256x256 .bf16) = q at *
  generalize (V29 m ρ c main_v1 : FVec Ideal S18432x8192 .bf16) = y at *
  exact XH_nat (sg m c) q y _ hX hq b k i d

theorem perm_y (c : Dev nD) (b k i) (d : Fin 8192) : Quant3.xh (V34 m ρ) c (ix2 (rowOf (nb b k) i) d) = gy m c b k i d := by
  have hq : ∀ r k : Fin 256, (V34 m ρ c main_v88 : FVec Ideal S256x256 .bf16) (ix2 r k) = QN (sg m c) (perm16 r) k := fun r k =>
    (congrFun (v88_34 m ρ c) (ix2 r k)).trans (v88 m ρ c r k)
  have hX : ∀ (r : Fin 18432) (d : Fin 8192), (V34 m ρ c main_v1 : FVec Ideal S18432x8192 .bf16) (ix2 r d) =
      (m ((c : Thread nD τ).loc main_arg1) : FVec Ideal S24x768x8192 .bf16) (ix3 ⟨r.val / 768, by omega⟩ ⟨r.val % 768, by omega⟩ d) := fun r d =>
    (congrFun ((v1_34 m ρ c).trans (v1_25 m ρ c)) (ix2 r d)).trans (v1_1 m ρ c r d)
  unfold gy Quant3.xh
  generalize (V34 m ρ c main_v88 : FVec Ideal S256x256 .bf16) = q at *
  generalize (V34 m ρ c main_v1 : FVec Ideal S18432x8192 .bf16) = y at *
  exact XH_perm (sg m c) q y _ hX hq b k i d

theorem amax_y (c : Dev nD) : am (Amax.out1 (V29 m ρ) c) = amr (gy m c) :=
  amax_eq _ _ (Amax.xh1 (V29 m ρ) c) (gy m c) (nat_y m ρ c) (fun β => (am_le _ β).trans (Amax.final1 (V29 m ρ) c β)) (fun β => amr_le _ β) (by decide)

theorem ts_y (c : Dev nD) (i) : (W33 m ρ c main_v100 : FVec Ideal S1 .f32) i = TS (amr (gy m c)) := by
  rw [← amax_y m ρ c, ← v100 m ρ c i]

/-- The random byte of an element. -/
theorem bits (c : Dev nD) (b k i) (d : Fin 8192) :
    ((m ((c : Thread nD τ).loc main_arg3) : IVec S24x768x8192 8) (ix3 b (inBlk k i) d)).setWidth 32 = Quant3.bb (V34 m ρ) c (ix2 (rowOf (nb b k) i) d) := by
  have h : ∀ r, (V34 m ρ c main_v103 : IVec S18432x8192 8) (ix2 r d) = _ := fun r => (congrFun (v103_34 m ρ c) (ix2 r d)).trans (v103 m ρ c r d)
  show _ = ((V34 m ρ c main_v103 : IVec S18432x8192 8) (ix2 (bitOf (rowOf (nb b k) i)) d)).setWidth 32
  rw [h]
  have g : ∀ r : Fin 1152, (bitOf (rowOf r i)).val = r.val / 16 * 256 + i.val / 4 * 64 + r.val % 16 * 4 + i.val % 4 := fun r => by
    have e : (rowOf r i).val = r.val / 16 * 256 + i.val * 16 + r.val % 16 := rfl
    simp only [bitOf, e]; omega
  have g' : ∀ q r : ℕ, q = r / 16 * 256 + i.val / 4 * 64 + r % 16 * 4 + i.val % 4 → q / 256 * 256 + q / 4 % 16 * 16 + q / 64 % 4 * 4 + q % 4 = r * 16 + i.val := fun q r hq => by
    have h0 : q / 256 = r / 16 := by omega
    have h1 : q / 4 % 16 = r % 16 := by omega
    have h2 : q / 64 % 4 = i.val / 4 := by omega
    have h3 : q % 4 = i.val % 4 := by omega
    rw [h0, h1, h2, h3]; omega
  have e := g' _ _ (g (nb b k))
  have en : (nb b k).val = b.val * 48 + k.val := rfl
  congr 3
  · exact Fin.ext (by show b.val = _; simp only [e]; omega)
  · exact Fin.ext (by show k.val * 16 + i.val = _; simp only [e]; omega)

/-! ## The results -/

theorem out_xc (c : Dev nD) (b K) (d : Fin 3072) : (W38 m ρ c main_v108 : IVec S24x384x3072 8) (ix3 b K d) = CODES (N := 3072) (Quant2.nib (V33 m ρ) c) (ix2 (cRow b K) d) :=
  (v108 m ρ c b K d).trans (congrFun ((v104_37 m ρ c 3 (by decide) (by decide +kernel) (by decide)).trans (Quant2.final3 (V33 m ρ) c)) _)
theorem out_xs (c : Dev nD) (b k) (d : Fin 3072) : (W38 m ρ c main_v109 : FVec Ideal S24x48x3072 .fp8e4m3) (ix3 b k d) = SC (N := 3072) (Quant2.ts (V33 m ρ) c) (Quant2.xh (V33 m ρ) c) (ix2 (nb b k) d) :=
  (v109 m ρ c b k d).trans (congrFun ((v104_37 m ρ c 4 (by decide) (by decide +kernel) (by decide)).trans (Quant2.final4 (V33 m ρ) c)) _)
theorem out_yc (c : Dev nD) (b K) (d : Fin 8192) : (W38 m ρ c main_v110 : IVec S24x384x8192 8) (ix3 b K d) = CODES (N := 8192) (Quant3.nib (V34 m ρ) c) (ix2 (cRow b K) d) :=
  (v110 m ρ c b K d).trans (congrFun ((v105_37 m ρ c 4 (by decide) (by decide +kernel)).trans (Quant3.final4 (V34 m ρ) c)) _)
theorem out_ys (c : Dev nD) (b k) (d : Fin 8192) : (W38 m ρ c main_v111 : FVec Ideal S24x48x8192 .fp8e4m3) (ix3 b k d) = SC (N := 8192) (Quant3.ts (V34 m ρ) c) (Quant3.xh (V34 m ρ) c) (ix2 (nb b k) d) :=
  (v111 m ρ c b k d).trans (congrFun ((v105_37 m ρ c 5 (by decide) (by decide +kernel)).trans (Quant3.final5 (V34 m ρ) c)) _)
theorem out_xt (c : Dev nD) (i) : (W38 m ρ c main_v94 : FVec Ideal S1 .f32) i = TS (amr (gx m c)) := (congrFun (v94_38 m ρ c) i).trans (ts_x m ρ c i)
theorem out_yt (c : Dev nD) (i) : (W38 m ρ c main_v100 : FVec Ideal S1 .f32) i = TS (amr (gy m c)) := (congrFun (v100_38 m ρ c) i).trans (ts_y m ρ c i)
theorem ts2 (c : Dev nD) : Quant2.ts (V33 m ρ) c = TS (amr (gx m c)) := ts_x m ρ c _
theorem ts3 (c : Dev nD) : Quant3.ts (V34 m ρ) c = TS (amr (gy m c)) := (congrFun (v100_34 m ρ c) _).trans (ts_y m ρ c _)

/-- The decoded tensors. -/
def dqx (c : Dev nD) : FVec Ideal (sh 18432 3072) .f32 :=
  vDq (WW (N := 3072) (Quant2.ts (V33 m ρ) c) (Quant2.xh (V33 m ρ) c)) (vIdx (WW (N := 3072) (Quant2.ts (V33 m ρ) c) (Quant2.xh (V33 m ρ) c))) (SR (SC (Quant2.ts (V33 m ρ) c) (Quant2.xh (V33 m ρ) c)))
def dqy (c : Dev nD) : FVec Ideal (sh 18432 8192) .f32 :=
  vDq (WW (N := 8192) (Quant3.ts (V34 m ρ) c) (Quant3.xh (V34 m ρ) c)) (vIdxS (WW (N := 8192) (Quant3.ts (V34 m ρ) c) (Quant3.xh (V34 m ρ) c)) (Quant3.bb (V34 m ρ) c)) (SR (SC (Quant3.ts (V34 m ρ) c) (Quant3.xh (V34 m ρ) c)))

theorem out_dw (c : Dev nD) (e : Fin 8192) (d : Fin 3072) : (W38 m ρ c main_v107 : FVec Ideal S8192x3072 .f32) (ix2 e d) =
    (∑ r : Fin 18432, dqy m ρ c (ix2 r e) * dqx m ρ c (ix2 r d)) * (TS (amr (gx m c)) * TS (amr (gy m c))) := by
  have h0 : W38 m ρ c main_v107 = Wgrad.REF (V36 m ρ c main_v106) (V36 m ρ c main_v105_2) (V36 m ρ c main_v104_2) :=
    ((W38_of m ρ c main_v107 (by decide)).trans (W37_arr m ρ c 3)).trans (Wgrad.final (V36 m ρ) c)
  have h1 : V36 m ρ c main_v105_2 = dqy m ρ c := (v105_36 m ρ c 6 (by decide)).trans (Quant3.final6 (V34 m ρ) c)
  have h2 : V36 m ρ c main_v104_2 = dqx m ρ c := (v104_36 m ρ c 5 (by decide) (by decide)).trans (Quant2.final5 (V33 m ρ) c)
  have h3 : (V36 m ρ c main_v106 : FVec Ideal S1 .f32) (ix1 0) = TS (amr (gx m c)) * TS (amr (gy m c)) := by
    refine (v106 m ρ c (ix1 0)).trans ?_
    have a := (congrFun (v94_35 m ρ c) (ix1 0)).trans (ts_x m ρ c (ix1 0))
    have b := (congrFun (v100_35 m ρ c) (ix1 0)).trans (ts_y m ρ c (ix1 0))
    generalize (W35 m ρ c main_v94 : FVec Ideal S1 .f32) = A at *
    generalize (W35 m ρ c main_v100 : FVec Ideal S1 .f32) = B at *
    rw [← a, ← b]
    rfl
  rw [h0, h1, h2, ← h3]
  rfl

end Cert.KernelIdeal.Host

end
-- ==== Proof.ReferenceRun.lean ====
/- The reference's run: each result is the later host operations' term over what the region leaves and what the earlier host
   operations computed, and the arguments are unchanged. -/
module

public import proofs.«01_k».proof.Proof.Gen.ReferenceIdeal.Frame
public import Idealize.ShloMosaic.Lib.StableHlo.Run
public import Idealize.ShloMosaic.Lib.Pipeline.FrameSuffix

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The contents when the region is left. -/
abbrev exitV (c : Dev nD) : Valuation τ sig (Elt F) :=
  Pipeline.withArrays spec0 c (Gen.V0 m c) fun w => (Gen.dats m 0 c).arrAt w cfg0.N

/-- The product of the two dequantised arrays, scaled by the product of the tensor scales. -/
def DW (xts dts : (⟨S1, .f32⟩ : BufTy).Contents (Elt F)) (dv : (⟨S24x48x8x2x8192, .bf16⟩ : BufTy).Contents (Elt F))
    (xv : (⟨S24x48x8x2x3072, .bf16⟩ : BufTy).Contents (Elt F)) : (⟨S8192x3072, .f32⟩ : BufTy).Contents (Elt F) :=
  mulf (Host.dotGeneral dot_S24x48x8x2x8192_S24x48x8x2x3072_S8192x3072_0132_0132_4_4_n_n none dv xv)
    (broadcastInDim S8192x3072 ![0, 1] bcast_S1x1_S8192x3072_0_1 (broadcastInDim S1x1 ![1] bcast_S1_S1x1_1 (mulf xts dts)))

/-- The operations after the region, read at the first result. -/
theorem tail_dw (V0 : Valuation τ sig (Elt F)) :
    after (List.flatten [Gen.hostOps1]) V0 (Proc.devRef .tc main_v42) =
      DW (V0 (Proc.devRef .tc main_v30)) (V0 (Proc.devRef .tc main_v36)) (V0 (Proc.devRef .tc main_v37_5)) (V0 (Proc.devRef .tc main_v37_2)) := by
  simp only [Gen.hostOps1, List.flatten_cons, List.flatten_nil, List.append_nil, List.cons_append, List.nil_append]
  unfold DW
  after_results

theorem fin_dw (c : Dev nD) :
    Pipeline.afterTail₀ cfgs (Gen.dats m) 0 (Gen.V0 m) [Gen.hostOps1] c main_v42 =
      DW (Gen.V0 m c (Proc.devRef .tc main_v30)) (Gen.V0 m c (Proc.devRef .tc main_v36)) ((Gen.dats m 0 c).arrAt 10 cfg0.N) ((Gen.dats m 0 c).arrAt 7 cfg0.N) := by
  have e0 : exitV m c (Proc.devRef .tc main_v30) = Gen.V0 m c (Proc.devRef .tc main_v30) :=
    (Pipeline.withArrays_arr spec0 Gen.launch0.win.arr_inj c (Gen.V0 m c) _ 0).trans (((Gen.dats m 0 c).arrAt_in 0 rfl _).trans (Gen.A_eq m c 0))
  have e1 : exitV m c (Proc.devRef .tc main_v36) = Gen.V0 m c (Proc.devRef .tc main_v36) :=
    (Pipeline.withArrays_arr spec0 Gen.launch0.win.arr_inj c (Gen.V0 m c) _ 1).trans (((Gen.dats m 0 c).arrAt_in 1 rfl _).trans (Gen.A_eq m c 1))
  have e2 : exitV m c (Proc.devRef .tc main_v37_5) = (Gen.dats m 0 c).arrAt 10 cfg0.N :=
    Pipeline.withArrays_arr spec0 Gen.launch0.win.arr_inj c (Gen.V0 m c) _ 10
  have e3 : exitV m c (Proc.devRef .tc main_v37_2) = (Gen.dats m 0 c).arrAt 7 cfg0.N :=
    Pipeline.withArrays_arr spec0 Gen.launch0.win.arr_inj c (Gen.V0 m c) _ 7
  exact (tail_dw (exitV m c)).trans (by rw [e0, e1, e2, e3])

/-- What the run leaves at device `c`. -/
structure Post (c : Dev nD) (mem : (ℓ : Loc nD τ sig) → Buf (Elt F) ℓ) : Prop where
  dw : mem ((c.tc : Thread nD τ).loc main_v42) = DW (Gen.V0 m c (Proc.devRef .tc main_v30)) (Gen.V0 m c (Proc.devRef .tc main_v36)) ((Gen.dats m 0 c).arrAt 10 cfg0.N) ((Gen.dats m 0 c).arrAt 7 cfg0.N)
  xc : mem ((c.tc : Thread nD τ).loc main_v37_0) = (Gen.dats m 0 c).arrAt 5 cfg0.N
  xs : mem ((c.tc : Thread nD τ).loc main_v37_1) = (Gen.dats m 0 c).arrAt 6 cfg0.N
  xt : mem ((c.tc : Thread nD τ).loc main_v30) = Gen.V0 m c (Proc.devRef .tc main_v30)
  dc : mem ((c.tc : Thread nD τ).loc main_v37_3) = (Gen.dats m 0 c).arrAt 8 cfg0.N
  ds : mem ((c.tc : Thread nD τ).loc main_v37_4) = (Gen.dats m 0 c).arrAt 9 cfg0.N
  dt : mem ((c.tc : Thread nD τ).loc main_v36) = Gen.V0 m c (Proc.devRef .tc main_v36)
  a0 : mem ((c.tc : Thread nD τ).loc main_arg0) = m ((c.tc : Thread nD τ).loc main_arg0)
  a1 : mem ((c.tc : Thread nD τ).loc main_arg1) = m ((c.tc : Thread nD τ).loc main_arg1)
  a2 : mem ((c.tc : Thread nD τ).loc main_arg2) = m ((c.tc : Thread nD τ).loc main_arg2)
  a3 : mem ((c.tc : Thread nD τ).loc main_arg3) = m ((c.tc : Thread nD τ).loc main_arg3)

theorem run (ρ : Dev nD → PrngReg) :
    θ_run defs (onTc (τ := τ) (main (F := F))) ⟨m, fun _ => 0, ρ⟩ fun r => ∀ c : Dev nD, Post m c r.2.mem :=
  (θ_run defs _ _).mono (fun _ h c =>
    { dw := ((h c).2 main_v42 (Pipeline.mem_restRefs_of main_v42 (by decide) (by decide))).trans (fin_dw m c)
      xc := (h c).1 5
      xs := (h c).1 6
      xt := ((h c).1 0).trans (((Gen.dats m 0 c).arrAt_in 0 rfl _).trans (Gen.A_eq m c 0))
      dc := (h c).1 8
      ds := (h c).1 9
      dt := ((h c).1 1).trans (((Gen.dats m 0 c).arrAt_in 1 rfl _).trans (Gen.A_eq m c 1))
      a0 := ((h c).2 main_arg0 (Pipeline.mem_restRefs_of main_arg0 (by decide) (by decide))).trans (Gen.W_main_arg0 m (Gen.dats m) c)
      a1 := ((h c).2 main_arg1 (Pipeline.mem_restRefs_of main_arg1 (by decide) (by decide))).trans (Gen.W_main_arg1 m (Gen.dats m) c)
      a2 := ((h c).2 main_arg2 (Pipeline.mem_restRefs_of main_arg2 (by decide) (by decide))).trans (Gen.W_main_arg2 m (Gen.dats m) c)
      a3 := ((h c).1 4).trans (((Gen.dats m 0 c).arrAt_in 4 rfl _).trans ((Gen.A_eq m c 4).trans (Gen.V_main_arg3 m c))) }) (Gen.run_main m ρ)

end Cert.ReferenceIdeal.Value

end
-- ==== Proof.Reindex.lean ====
/- The reference's gradient product, over the rows of the kernel's order. -/
module

public import proofs.«01_k».proof.Proof.ReferenceRun
public import proofs.«01_k».proof.Proof.RefCommon

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Fp4

/-- The block, the byte and the half of a row. -/
def rowEquiv : (Fin 24 × Fin 48 × Fin 8 × Fin 2) ≃ Fin 18432 where
  toFun k := rowOf (nb k.1 k.2.1) ⟨k.2.2.1.val * 2 + k.2.2.2.val, by omega⟩
  invFun r := (⟨(blkOf r).val / 48, by omega⟩, ⟨(blkOf r).val % 48, by omega⟩, ⟨r.val / 16 % 16 / 2, by omega⟩, ⟨r.val / 16 % 2, by omega⟩)
  left_inv := by
    rintro ⟨b, k, p, n⟩
    have h : ∀ i : Fin 16, (blkOf (rowOf (nb b k) i)).val = b.val * 48 + k.val := fun i => by rw [blkOf_rowOf]; rfl
    have h' : ∀ (q : Fin 1152) (i : Fin 16), (rowOf q i).val / 16 % 16 = i.val := fun q i => by simp only [rowOf]; omega
    have h'' : ∀ (q : Fin 1152) (i : Fin 16), (rowOf q i).val / 16 % 2 = i.val % 2 := fun q i => by simp only [rowOf]; omega
    simp only [Prod.mk.injEq]
    refine ⟨Fin.ext ?_, Fin.ext ?_, Fin.ext ?_, Fin.ext ?_⟩
    · simp only [h]; omega
    · simp only [h]; omega
    · simp only [h']; omega
    · simp only [h'']; omega
  right_inv := by
    intro r
    apply Fin.ext
    simp only [rowOf, nb, blkOf]
    omega

abbrev dD := dot_S24x48x8x2x8192_S24x48x8x2x3072_S8192x3072_0132_0132_4_4_n_n

theorem hsize : ∀ a : Fin 4, (![24, 48, 2, 8] : Fin 4 → ℕ) a = dD.contr.size a := by
  intro a
  match a with
  | 0 => rfl
  | 1 => rfl
  | 2 => rfl
  | 3 => rfl

/-- The four contracted coordinates. -/
def cIdx (k : Fin 24 × Fin 48 × Fin 8 × Fin 2) : dD.contr.Idx := fun a => ((ix4 k.1 k.2.1 k.2.2.2 k.2.2.1 : (⟨4, ![24, 48, 2, 8]⟩ : Shape).Idx) a).cast (hsize a)

def cEquiv : (Fin 24 × Fin 48 × Fin 8 × Fin 2) ≃ dD.contr.Idx where
  toFun := cIdx
  invFun kk := ((kk (0 : Fin 4)).cast (hsize 0).symm, (kk (1 : Fin 4)).cast (hsize 1).symm, (kk (3 : Fin 4)).cast (hsize 3).symm, (kk (2 : Fin 4)).cast (hsize 2).symm)
  left_inv _ := rfl
  right_inv kk := by
    funext (a : Fin 4)
    match a with
    | 0 => rfl
    | 1 => rfl
    | 2 => rfl
    | 3 => rfl

theorem lhs_at (e : Fin 8192) (d : Fin 3072) (k) : dD.lhsIdx (ix2 e d) (cIdx k) = ix5 k.1 k.2.1 k.2.2.1 k.2.2.2 e := by
  funext (a : Fin 5)
  match a with
  | 0 => rfl
  | 1 => rfl
  | 2 => rfl
  | 3 => rfl
  | 4 => rfl

theorem rhs_at (e : Fin 8192) (d : Fin 3072) (k) : dD.rhsIdx (ix2 e d) (cIdx k) = ix5 k.1 k.2.1 k.2.2.1 k.2.2.2 d := by
  funext (a : Fin 5)
  match a with
  | 0 => rfl
  | 1 => rfl
  | 2 => rfl
  | 3 => rfl
  | 4 => rfl

theorem dw_at (xts dts : FVec Ideal S1 .f32) (dv : FVec Ideal S24x48x8x2x8192 .bf16) (xv : FVec Ideal S24x48x8x2x3072 .bf16)
    (A : FVec Ideal (sh 18432 8192) .f32) (B : FVec Ideal (sh 18432 3072) .f32)
    (hA0 : ∀ b k p c, dv (ix5 b k p 0 c) = A (ix2 (rowOf (nb b k) (el0 p)) c)) (hA1 : ∀ b k p c, dv (ix5 b k p 1 c) = A (ix2 (rowOf (nb b k) (el1 p)) c))
    (hB0 : ∀ b k p c, xv (ix5 b k p 0 c) = B (ix2 (rowOf (nb b k) (el0 p)) c)) (hB1 : ∀ b k p c, xv (ix5 b k p 1 c) = B (ix2 (rowOf (nb b k) (el1 p)) c))
    (e : Fin 8192) (d : Fin 3072) :
    DW (F := Ideal) xts dts dv xv (ix2 e d) = (∑ r : Fin 18432, A (ix2 r e) * B (ix2 r d)) * (xts (ix1 0) * dts (ix1 0)) := by
  have hA : ∀ b k p (n : Fin 2) c, dv (ix5 b k p n c) = A (ix2 (rowOf (nb b k) ⟨p.val * 2 + n.val, by omega⟩) c) := by
    intro b k p n c
    match n with
    | 0 => exact hA0 b k p c
    | 1 => exact hA1 b k p c
  have hB : ∀ b k p (n : Fin 2) c, xv (ix5 b k p n c) = B (ix2 (rowOf (nb b k) ⟨p.val * 2 + n.val, by omega⟩) c) := by
    intro b k p n c
    match n with
    | 0 => exact hB0 b k p c
    | 1 => exact hB1 b k p c
  rw [← Equiv.sum_comp rowEquiv]
  pointwise [DW]
  congr 1
  show (0 : EReal) + ∑ k : dD.contr.Idx, dv (dD.lhsIdx (ix2 e d) k) * xv (dD.rhsIdx (ix2 e d) k) = _
  rw [zero_add]
  refine (Fintype.sum_equiv cEquiv _ _ fun k => ?_).symm
  show _ = dv (dD.lhsIdx (ix2 e d) (cIdx k)) * xv (dD.rhsIdx (ix2 e d) (cIdx k))
  rw [lhs_at, rhs_at, hA, hB]
  rfl

end Cert.ReferenceIdeal.Value

end
-- ==== Proof.RefX.lean ====
/- The reference's blocks of `x`, element by element. -/
module

public import proofs.«01_k».proof.Proof.ReferenceRun
public import proofs.«01_k».proof.Proof.RefCommon
public import proofs.«01_k».proof.Proof.Pieces
public import Idealize.ShloMosaic.Lib.Pipeline.ValueKit

@[expose] public section

set_option maxRecDepth 16384

noncomputable section

namespace Cert.ReferenceIdeal.ValueX

open Idealize.ShloMosaic Idealize.ShloMosaic.TcCoe Idealize.ShloMosaic.Tactic
open Cert.ReferenceIdeal Cert.ReferenceIdeal.Gen Cert.Fp4

variable (x : FVec Ideal S24x768x3072 .f32) (ts : EReal) (h : FVec Ideal (sh 18432 3072) .f32)

/-- The scales, the values to be rounded, the codes and the dequantised values of the blocks. -/
def sc : FVec Ideal S24x48x3072 .f32 := k0_pay3 (F := Ideal) x ts
def w : FVec Ideal S24x48x16x3072 .f32 := k0_pay4 (F := Ideal) x ts
def cod : IVec S24x384x3072 8 := k0_pay8 (F := Ideal) (k0_pay4 x ts) (k0_pay6 x ts) (k0_pay7 x ts)
def ext : IVec S24x384x3072 32 := k0_pay20 (cod x ts)
def val : FVec Ideal S24x48x8x2x3072 .bf16 :=
  k0_pay24 (F := Ideal) (k0_pay3 x ts) (k0_pay21 (ext x ts) 15#32) (k0_pay22 (ext x ts)) (k0_pay23 (ext x ts))

theorem scale (hx : ∀ b k i c, x (ix3 b (inBlk k i) c) = h (ix2 (rowOf (nb b k) i) c)) (b k c) :
    sc x ts (ix3 b k c) = SC ts h (ix2 (nb b k) c) := by
  pointwise [sc, k0_pay3, k0_pay2, SC]
  have : ∀ i : Fin 16, x (ix3 b ⟨k.val * 16 + i.val, by omega⟩ c) = h (ix2 (rowOf (nb b k) i) c) := fun i => hx b k i c
  simp only [this]

theorem w_eq (hx : ∀ b k i c, x (ix3 b (inBlk k i) c) = h (ix2 (rowOf (nb b k) i) c)) (hts : ts ≠ 0) (b k i c) :
    w x ts (ix4 b k i c) = WW ts h (ix2 (rowOf (nb b k) i) c) := by
  refine Eq.trans ?_ (WW_apply ts hts h (nb b k) i c _ _ (scale x ts h hx b k c) (hx b k i c))
  unfold w k0_pay4
  have : (k0_pay3 (F := Ideal) x ts : FVec Ideal S24x48x3072 .f32) = sc x ts := rfl
  generalize k0_pay3 (F := Ideal) x ts = S at *
  pointwise [k0_pay2]
  rw [this]
  rfl

theorem cod_eq (b) (k : Fin 384) (c) : cod x ts (ix3 b k c) = byte (rNib (w x ts) (rQ (w x ts)) (ix4 b ⟨k.val / 8, by omega⟩ (el0 ⟨k.val % 8, by omega⟩) c))
    (rNib (w x ts) (rQ (w x ts)) (ix4 b ⟨k.val / 8, by omega⟩ (el1 ⟨k.val % 8, by omega⟩) c)) := by
  have : cod x ts = trunci 8 (ori (shapeCast S24x384x3072 (extractStridedSlice S24x384x1x3072 ![0, 0, 0, 0] (shapeCast S24x384x2x3072 (rNib (w x ts) (rQ (w x ts))) shapeCasts_S24x48x16x3072_S24x384x2x3072) slices_S24x384x2x3072_o0_0_0_0_S24x384x1x3072) shapeCasts_S24x384x1x3072_S24x384x3072)
    (shli (shapeCast S24x384x3072 (extractStridedSlice S24x384x1x3072 ![0, 0, 1, 0] (shapeCast S24x384x2x3072 (rNib (w x ts) (rQ (w x ts))) shapeCasts_S24x48x16x3072_S24x384x2x3072) slices_S24x384x2x3072_o0_0_1_0_S24x384x1x3072) shapeCasts_S24x384x1x3072_S24x384x3072) (broadcast S24x384x3072 4#32))) natLt_8_32 := rfl
  rw [this]
  generalize rNib (w x ts) (rQ (w x ts)) = n
  pointwise []
  rfl

theorem val_form : val x ts = mulf (concatenate S24x48x8x2x3072 3 [⟨S24x48x8x1x3072, shapeCast S24x48x8x1x3072 (shapeCast S24x48x8x3072 (rDec (andi (ext x ts) (broadcast S24x384x3072 15#32))) shapeCasts_S24x384x3072_S24x48x8x3072) shapeCasts_S24x48x8x3072_S24x48x8x1x3072⟩,
      ⟨S24x48x8x1x3072, shapeCast S24x48x8x1x3072 (shapeCast S24x48x8x3072 (rDec (shrsi (ext x ts) (broadcast S24x384x3072 4#32))) shapeCasts_S24x384x3072_S24x48x8x3072) shapeCasts_S24x48x8x3072_S24x48x8x1x3072⟩] concatenates_S24x48x8x1x3072_S24x48x8x1x3072_S24x48x8x2x3072_d3)
    (broadcastTo S24x48x8x2x3072 (shapeCast S24x48x1x1x3072 (extf .bf16 (φ := .fp8e4m3) (sc x ts) bitsLt_fp8e4m3_bf16) shapeCasts_S24x48x3072_S24x48x1x1x3072) broadcasts_S24x48x1x1x3072_S24x48x8x2x3072) := rfl

theorem val_lo (b k p c) : val x ts (ix5 b k p 0 c) = rDec (andi (ext x ts) (broadcast S24x384x3072 15#32)) (ix3 b ⟨k.val * 8 + p.val, by omega⟩ c) * sc x ts (ix3 b k c) := by
  rw [val_form]
  generalize rDec (andi (ext x ts) (broadcast S24x384x3072 15#32)) = n
  generalize rDec (shrsi (ext x ts) (broadcast S24x384x3072 4#32)) = n'
  pointwise []

theorem val_hi (b k p c) : val x ts (ix5 b k p 1 c) = rDec (shrsi (ext x ts) (broadcast S24x384x3072 4#32)) (ix3 b ⟨k.val * 8 + p.val, by omega⟩ c) * sc x ts (ix3 b k c) := by
  rw [val_form]
  generalize rDec (andi (ext x ts) (broadcast S24x384x3072 15#32)) = n
  generalize rDec (shrsi (ext x ts) (broadcast S24x384x3072 4#32)) = n'
  pointwise []

/-- The four bits of an element and their value, on both sides. -/
theorem nib (hx : ∀ b k i c, x (ix3 b (inBlk k i) c) = h (ix2 (rowOf (nb b k) i) c)) (hts : ts ≠ 0) (b k i c) : ∃ (n : BitVec 4) (v : EReal),
    vNib (WW ts h) (vIdx (WW ts h)) (ix2 (rowOf (nb b k) i) c) = n.setWidth 32 ∧ rNib (w x ts) (rQ (w x ts)) (ix4 b k i c) = n.setWidth 32 ∧
      (∀ q : FVec Ideal (sh 18432 3072) .f32, vDq (WW ts h) (vIdx (WW ts h)) q (ix2 (rowOf (nb b k) i) c) = v * q (ix2 (rowOf (nb b k) i) c)) ∧
      ∀ {s'' : Shape} (a : IVec s'' 32) (y : s''.Idx), a y = n.setWidth 32 → rDec a y = v := by
  have hw := (w_eq x ts h hx hts b k i c).symm
  exact code_of (WW ts h) (w x ts) (rQ (w x ts)) _ _ _ hw (by
    obtain ⟨k, h0, h7, hi, hr, hq⟩ := idx_round (WW ts h) (w x ts) (ix2 (rowOf (nb b k) i) c) (ix4 b k i c) hw
    exact ⟨k, h0, h7, hi, hr, hq⟩)

theorem codes (hx : ∀ b k i c, x (ix3 b (inBlk k i) c) = h (ix2 (rowOf (nb b k) i) c)) (hts : ts ≠ 0) (b K c) :
    cod x ts (ix3 b K c) = CODES (vNib (WW ts h) (vIdx (WW ts h))) (ix2 (cRow b K) c) := by
  rw [cod_eq]
  obtain ⟨n, v, hn, hr, -, -⟩ := nib x ts h hx hts b ⟨K.val / 8, by omega⟩ (el0 ⟨K.val % 8, by omega⟩) c
  obtain ⟨n', v', hn', hr', -, -⟩ := nib x ts h hx hts b ⟨K.val / 8, by omega⟩ (el1 ⟨K.val % 8, by omega⟩) c
  rw [hr, hr']
  show _ = BitVec.setWidth 8 (vNib (WW ts h) (vIdx (WW ts h)) (ix2 (loRow (cRow b K)) c) ||| vNib (WW ts h) (vIdx (WW ts h)) (ix2 (hiRow (cRow b K)) c) <<< 4)
  rw [loRow_cRow b ⟨K.val / 8, by omega⟩ ⟨K.val % 8, by omega⟩ K (by simp only []; omega), hiRow_cRow b ⟨K.val / 8, by omega⟩ ⟨K.val % 8, by omega⟩ K (by simp only []; omega), hn, hn']
  simp [byte, IntOp.ori, IntOp.shli]

/-- The byte of two elements, in terms of the kernels' rows. -/
theorem ext_eq (hx : ∀ b k i c, x (ix3 b (inBlk k i) c) = h (ix2 (rowOf (nb b k) i) c)) (hts : ts ≠ 0) (b k p c) :
    ext x ts (ix3 b ⟨k.val * 8 + p.val, by omega⟩ c) = (byte (rNib (w x ts) (rQ (w x ts)) (ix4 b k (el0 p) c)) (rNib (w x ts) (rQ (w x ts)) (ix4 b k (el1 p) c))).setWidth 32 := by
  have : ext x ts = extui 32 (cod x ts) natLt_8_32 := rfl
  rw [this]
  show (cod x ts _).setWidth 32 = _
  rw [cod_eq]
  have e : (⟨(k.val * 8 + p.val) / 8, by omega⟩ : Fin 48) = k := Fin.ext (by simp only []; omega)
  have e' : (⟨(k.val * 8 + p.val) % 8, by omega⟩ : Fin 8) = p := Fin.ext (by simp only []; omega)
  simp only [e, e']

theorem vals0 (hx : ∀ b k i c, x (ix3 b (inBlk k i) c) = h (ix2 (rowOf (nb b k) i) c)) (hts : ts ≠ 0) (b k p c) :
    val x ts (ix5 b k p 0 c) = vDq (WW ts h) (vIdx (WW ts h)) (SR (SC ts h)) (ix2 (rowOf (nb b k) (el0 p)) c) := by
  obtain ⟨n, v, hn, hr, hd, he⟩ := nib x ts h hx hts b k (el0 p) c
  obtain ⟨n', v', hn', hr', hd', he'⟩ := nib x ts h hx hts b k (el1 p) c
  rw [val_lo, hd, scale x ts h hx]
  rw [he _ _ (by show IntOp.andi (ext x ts _) 15#32 = _; rw [ext_eq x ts h hx hts, hr, hr', byte_lo])]
  show _ = v * SC ts h (ix2 (blkOf (rowOf (nb b k) (el0 p))) c)
  rw [blkOf_rowOf]

theorem vals1 (hx : ∀ b k i c, x (ix3 b (inBlk k i) c) = h (ix2 (rowOf (nb b k) i) c)) (hts : ts ≠ 0) (b k p c) :
    val x ts (ix5 b k p 1 c) = vDq (WW ts h) (vIdx (WW ts h)) (SR (SC ts h)) (ix2 (rowOf (nb b k) (el1 p)) c) := by
  obtain ⟨n, v, hn, hr, hd, he⟩ := nib x ts h hx hts b k (el0 p) c
  obtain ⟨n', v', hn', hr', hd', he'⟩ := nib x ts h hx hts b k (el1 p) c
  rw [val_hi, hd', scale x ts h hx]
  rw [he' _ _ (by show IntOp.shrsi .vector (ext x ts _) 4#32 = _; rw [ext_eq x ts h hx hts, hr, hr', byte_hi])]
  show _ = v' * SC ts h (ix2 (blkOf (rowOf (nb b k) (el1 p))) c)
  rw [blkOf_rowOf]

end Cert.ReferenceIdeal.ValueX

end
-- ==== Proof.RefD.lean ====
/- The reference's blocks of `dy`, element by element. -/
module

public import proofs.«01_k».proof.Proof.ReferenceRun
public import proofs.«01_k».proof.Proof.RefCommon
public import proofs.«01_k».proof.Proof.Pieces
public import Idealize.ShloMosaic.Lib.Pipeline.ValueKit

@[expose] public section

set_option maxRecDepth 16384

noncomputable section

namespace Cert.ReferenceIdeal.ValueD

open Idealize.ShloMosaic Idealize.ShloMosaic.TcCoe Idealize.ShloMosaic.Tactic
open Cert.ReferenceIdeal Cert.ReferenceIdeal.Gen Cert.Fp4

variable (x : FVec Ideal S24x768x8192 .f32) (ts : EReal) (h : FVec Ideal (sh 18432 8192) .f32) (bb : IVec S24x768x8192 8) (b' : IVec (sh 18432 8192) 32)

/-- The scales, the values to be rounded, the thresholds, the codes and the dequantised values of the blocks. -/
def sc : FVec Ideal S24x48x8192 .f32 := k0_pay11 (F := Ideal) ts (k0_pay10 x)
def w : FVec Ideal S24x48x16x8192 .f32 := k0_pay12 (F := Ideal) ts (k0_pay9 x) (k0_pay10 x)
def u : FVec Ideal S24x48x16x8192 .f32 := k0_pay16 (F := Ideal) bb
def cod : IVec S24x384x8192 8 := k0_pay19 (F := Ideal) (k0_pay12 ts (k0_pay9 x) (k0_pay10 x)) (k0_pay14 ts (k0_pay9 x) (k0_pay10 x)) (k0_pay16 bb)
  (k0_pay17 ts (k0_pay9 x) (k0_pay10 x)) (k0_pay18 ts (k0_pay9 x) (k0_pay10 x))
def ext : IVec S24x384x8192 32 := k0_pay25 (cod x ts bb)
def val : FVec Ideal S24x48x8x2x8192 .bf16 :=
  k0_pay1 (F := Ideal) (k0_pay11 ts (k0_pay10 x)) (k0_pay34 (k0_pay27 (cod x ts bb)) (k0_pay28 (cod x ts bb)) (k0_pay29 (cod x ts bb)) (k0_pay30 (cod x ts bb))
    (k0_pay31 (cod x ts bb)) (k0_pay32 (cod x ts bb)) (Scalar.ofBits .bf16 0x0000#16) k0_pay33) (k0_pay36 (ext x ts bb)) (k0_pay37 (ext x ts bb)) (Scalar.ofBits .bf16 0x0000#16)

theorem scale (hx : ∀ b k i c, x (ix3 b (inBlk k i) c) = h (ix2 (rowOf (nb b k) i) c)) (b k c) :
    sc x ts (ix3 b k c) = SC ts h (ix2 (nb b k) c) := by
  pointwise [sc, k0_pay11, k0_pay10, k0_pay9, SC]
  have : ∀ i : Fin 16, x (ix3 b ⟨k.val * 16 + i.val, by omega⟩ c) = h (ix2 (rowOf (nb b k) i) c) := fun i => hx b k i c
  simp only [this]

theorem w_eq (hx : ∀ b k i c, x (ix3 b (inBlk k i) c) = h (ix2 (rowOf (nb b k) i) c)) (hts : ts ≠ 0) (b k i c) :
    w x ts (ix4 b k i c) = WW ts h (ix2 (rowOf (nb b k) i) c) := by
  refine Eq.trans ?_ (WW_apply ts hts h (nb b k) i c _ _ (scale x ts h hx b k c) (hx b k i c))
  unfold w k0_pay12
  have : (k0_pay11 (F := Ideal) ts (k0_pay10 x) : FVec Ideal S24x48x8192 .f32) = sc x ts := rfl
  generalize k0_pay11 (F := Ideal) ts (k0_pay10 x) = S at *
  pointwise [k0_pay9]
  rw [this]
  rfl

theorem cod_eq (b) (k : Fin 384) (c) : cod x ts bb (ix3 b k c) = byte (rNib (w x ts) (rQS (w x ts) (u bb)) (ix4 b ⟨k.val / 8, by omega⟩ (el0 ⟨k.val % 8, by omega⟩) c))
    (rNib (w x ts) (rQS (w x ts) (u bb)) (ix4 b ⟨k.val / 8, by omega⟩ (el1 ⟨k.val % 8, by omega⟩) c)) := by
  have : cod x ts bb = trunci 8 (ori (shapeCast S24x384x8192 (extractStridedSlice S24x384x1x8192 ![0, 0, 0, 0] (shapeCast S24x384x2x8192 (rNib (w x ts) (rQS (w x ts) (u bb))) shapeCasts_S24x48x16x8192_S24x384x2x8192) slices_S24x384x2x8192_o0_0_0_0_S24x384x1x8192) shapeCasts_S24x384x1x8192_S24x384x8192)
    (shli (shapeCast S24x384x8192 (extractStridedSlice S24x384x1x8192 ![0, 0, 1, 0] (shapeCast S24x384x2x8192 (rNib (w x ts) (rQS (w x ts) (u bb))) shapeCasts_S24x48x16x8192_S24x384x2x8192) slices_S24x384x2x8192_o0_0_1_0_S24x384x1x8192) shapeCasts_S24x384x1x8192_S24x384x8192) (broadcast S24x384x8192 4#32))) natLt_8_32 := rfl
  rw [this]
  generalize rNib (w x ts) (rQS (w x ts) (u bb)) = n
  pointwise []
  rfl

theorem val_form : val x ts bb = mulf (concatenate S24x48x8x2x8192 3 [⟨S24x48x8x1x8192, shapeCast S24x48x8x1x8192 (shapeCast S24x48x8x8192 (rDec (andi (ext x ts bb) (broadcast S24x384x8192 15#32))) shapeCasts_S24x384x8192_S24x48x8x8192) shapeCasts_S24x48x8x8192_S24x48x8x1x8192⟩,
      ⟨S24x48x8x1x8192, shapeCast S24x48x8x1x8192 (shapeCast S24x48x8x8192 (rDec (shrsi (ext x ts bb) (broadcast S24x384x8192 4#32))) shapeCasts_S24x384x8192_S24x48x8x8192) shapeCasts_S24x48x8x8192_S24x48x8x1x8192⟩] concatenates_S24x48x8x1x8192_S24x48x8x1x8192_S24x48x8x2x8192_d3)
    (broadcastTo S24x48x8x2x8192 (shapeCast S24x48x1x1x8192 (extf .bf16 (φ := .fp8e4m3) (sc x ts) bitsLt_fp8e4m3_bf16) shapeCasts_S24x48x8192_S24x48x1x1x8192) broadcasts_S24x48x1x1x8192_S24x48x8x2x8192) := rfl

theorem val_lo (b k p c) : val x ts bb (ix5 b k p 0 c) = rDec (andi (ext x ts bb) (broadcast S24x384x8192 15#32)) (ix3 b ⟨k.val * 8 + p.val, by omega⟩ c) * sc x ts (ix3 b k c) := by
  rw [val_form]
  generalize rDec (andi (ext x ts bb) (broadcast S24x384x8192 15#32)) = n
  generalize rDec (shrsi (ext x ts bb) (broadcast S24x384x8192 4#32)) = n'
  pointwise []

theorem val_hi (b k p c) : val x ts bb (ix5 b k p 1 c) = rDec (shrsi (ext x ts bb) (broadcast S24x384x8192 4#32)) (ix3 b ⟨k.val * 8 + p.val, by omega⟩ c) * sc x ts (ix3 b k c) := by
  rw [val_form]
  generalize rDec (andi (ext x ts bb) (broadcast S24x384x8192 15#32)) = n
  generalize rDec (shrsi (ext x ts bb) (broadcast S24x384x8192 4#32)) = n'
  pointwise []

/-- The four bits of an element and their value, on both sides. -/
theorem nib (hx : ∀ b k i c, x (ix3 b (inBlk k i) c) = h (ix2 (rowOf (nb b k) i) c)) (hb : ∀ b k i c, (bb (ix3 b (inBlk k i) c)).setWidth 32 = b' (ix2 (rowOf (nb b k) i) c)) (hts : ts ≠ 0) (b k i c) : ∃ (n : BitVec 4) (v : EReal),
    vNib (WW ts h) (vIdxS (WW ts h) b') (ix2 (rowOf (nb b k) i) c) = n.setWidth 32 ∧ rNib (w x ts) (rQS (w x ts) (u bb)) (ix4 b k i c) = n.setWidth 32 ∧
      (∀ q : FVec Ideal (sh 18432 8192) .f32, vDq (WW ts h) (vIdxS (WW ts h) b') q (ix2 (rowOf (nb b k) i) c) = v * q (ix2 (rowOf (nb b k) i) c)) ∧
      ∀ {s'' : Shape} (a : IVec s'' 32) (y : s''.Idx), a y = n.setWidth 32 → rDec a y = v := by
  have hw := (w_eq x ts h hx hts b k i c).symm
  obtain ⟨v, hv, hvu⟩ := Cert.KernelIdeal.Pieces.vU_real b' (ix2 (rowOf (nb b k) i) c) (bb (ix3 b (inBlk k i) c)) (hb b k i c).symm
  have hu : u bb (ix4 b k i c) = v := by
    rw [← hvu]
    pointwise [u, k0_pay16, vU]
    rw [← hb b k i c]
    rfl
  exact code_of (WW ts h) (w x ts) (rQS (w x ts) (u bb)) _ _ _ hw (by
    obtain ⟨k, h0, h7, hi, hr, hq⟩ := idx_threshold (WW ts h) (w x ts) b' (u bb) (ix2 (rowOf (nb b k) i) c) (ix4 b k i c) hw v hv hvu hu
    exact ⟨k, h0, h7, hi, hr, hq⟩)

theorem codes (hx : ∀ b k i c, x (ix3 b (inBlk k i) c) = h (ix2 (rowOf (nb b k) i) c)) (hb : ∀ b k i c, (bb (ix3 b (inBlk k i) c)).setWidth 32 = b' (ix2 (rowOf (nb b k) i) c)) (hts : ts ≠ 0) (b K c) :
    cod x ts bb (ix3 b K c) = CODES (vNib (WW ts h) (vIdxS (WW ts h) b')) (ix2 (cRow b K) c) := by
  rw [cod_eq]
  obtain ⟨n, v, hn, hr, -, -⟩ := nib x ts h bb b' hx hb hts b ⟨K.val / 8, by omega⟩ (el0 ⟨K.val % 8, by omega⟩) c
  obtain ⟨n', v', hn', hr', -, -⟩ := nib x ts h bb b' hx hb hts b ⟨K.val / 8, by omega⟩ (el1 ⟨K.val % 8, by omega⟩) c
  rw [hr, hr']
  show _ = BitVec.setWidth 8 (vNib (WW ts h) (vIdxS (WW ts h) b') (ix2 (loRow (cRow b K)) c) ||| vNib (WW ts h) (vIdxS (WW ts h) b') (ix2 (hiRow (cRow b K)) c) <<< 4)
  rw [loRow_cRow b ⟨K.val / 8, by omega⟩ ⟨K.val % 8, by omega⟩ K (by simp only []; omega), hiRow_cRow b ⟨K.val / 8, by omega⟩ ⟨K.val % 8, by omega⟩ K (by simp only []; omega), hn, hn']
  simp [byte, IntOp.ori, IntOp.shli]

/-- The byte of two elements, in terms of the kernels' rows. -/
theorem ext_eq (hx : ∀ b k i c, x (ix3 b (inBlk k i) c) = h (ix2 (rowOf (nb b k) i) c)) (hb : ∀ b k i c, (bb (ix3 b (inBlk k i) c)).setWidth 32 = b' (ix2 (rowOf (nb b k) i) c)) (hts : ts ≠ 0) (b k p c) :
    ext x ts bb (ix3 b ⟨k.val * 8 + p.val, by omega⟩ c) = (byte (rNib (w x ts) (rQS (w x ts) (u bb)) (ix4 b k (el0 p) c)) (rNib (w x ts) (rQS (w x ts) (u bb)) (ix4 b k (el1 p) c))).setWidth 32 := by
  have : ext x ts bb = extui 32 (cod x ts bb) natLt_8_32 := rfl
  rw [this]
  show (cod x ts bb _).setWidth 32 = _
  rw [cod_eq]
  have e : (⟨(k.val * 8 + p.val) / 8, by omega⟩ : Fin 48) = k := Fin.ext (by simp only []; omega)
  have e' : (⟨(k.val * 8 + p.val) % 8, by omega⟩ : Fin 8) = p := Fin.ext (by simp only []; omega)
  simp only [e, e']

theorem vals0 (hx : ∀ b k i c, x (ix3 b (inBlk k i) c) = h (ix2 (rowOf (nb b k) i) c)) (hb : ∀ b k i c, (bb (ix3 b (inBlk k i) c)).setWidth 32 = b' (ix2 (rowOf (nb b k) i) c)) (hts : ts ≠ 0) (b k p c) :
    val x ts bb (ix5 b k p 0 c) = vDq (WW ts h) (vIdxS (WW ts h) b') (SR (SC ts h)) (ix2 (rowOf (nb b k) (el0 p)) c) := by
  obtain ⟨n, v, hn, hr, hd, he⟩ := nib x ts h bb b' hx hb hts b k (el0 p) c
  obtain ⟨n', v', hn', hr', hd', he'⟩ := nib x ts h bb b' hx hb hts b k (el1 p) c
  rw [val_lo, hd, scale x ts h hx]
  rw [he _ _ (by show IntOp.andi (ext x ts bb _) 15#32 = _; rw [ext_eq x ts h bb b' hx hb hts, hr, hr', byte_lo])]
  show _ = v * SC ts h (ix2 (blkOf (rowOf (nb b k) (el0 p))) c)
  rw [blkOf_rowOf]

theorem vals1 (hx : ∀ b k i c, x (ix3 b (inBlk k i) c) = h (ix2 (rowOf (nb b k) i) c)) (hb : ∀ b k i c, (bb (ix3 b (inBlk k i) c)).setWidth 32 = b' (ix2 (rowOf (nb b k) i) c)) (hts : ts ≠ 0) (b k p c) :
    val x ts bb (ix5 b k p 1 c) = vDq (WW ts h) (vIdxS (WW ts h) b') (SR (SC ts h)) (ix2 (rowOf (nb b k) (el1 p)) c) := by
  obtain ⟨n, v, hn, hr, hd, he⟩ := nib x ts h bb b' hx hb hts b k (el0 p) c
  obtain ⟨n', v', hn', hr', hd', he'⟩ := nib x ts h bb b' hx hb hts b k (el1 p) c
  rw [val_hi, hd', scale x ts h hx]
  rw [he' _ _ (by show IntOp.shrsi .vector (ext x ts bb _) 4#32 = _; rw [ext_eq x ts h bb b' hx hb hts, hr, hr', byte_hi])]
  show _ = v' * SC ts h (ix2 (blkOf (rowOf (nb b k) (el1 p))) c)
  rw [blkOf_rowOf]

end Cert.ReferenceIdeal.ValueD

end
-- ==== Proof.RefArr.lean ====
/- What the reference's blocks leave in their arrays. -/
module

public import proofs.«01_k».proof.Proof.RefX
public import proofs.«01_k».proof.Proof.RefD
public import Idealize.ShloMosaic.Lib.Pipeline.ReadBack

@[expose] public section

set_option maxRecDepth 16384

noncomputable section

namespace Cert.ReferenceIdeal.Arr

open Idealize.ShloMosaic Idealize.ShloMosaic.TcCoe Idealize.ShloMosaic.Tactic
open Cert.ReferenceIdeal Cert.ReferenceIdeal.Gen Cert.Fp4

variable (m : (ℓ : Loc nD τ sig) → Buf (Elt Ideal) ℓ)

def xts (c : Dev nD) : EReal := (V m c main_v30 : FVec Ideal S1 .f32) (ix1 0)
def dts (c : Dev nD) : EReal := (V m c main_v36 : FVec Ideal S1 .f32) (ix1 0)

theorem idx : ∀ t : Fin cfg0.N, win0_0.index t = ![0] ∧ win0_1.index t = ![0] ∧ win0_2.index t = ![0, 0, 0] ∧ win0_3.index t = ![0, 0, 0]
    ∧ win0_4.index t = ![0, 0, 0] :=
  (by decide +kernel : ∀ t : Fin grid0.N, _)
theorem one (i : S1.Idx) : i = ix1 0 := by
  funext a
  match a with
  | ⟨0, _⟩ => exact Subsingleton.elim (α := Fin 1) _ _
theorem blk0_at (c : Dev nD) (t : Fin cfg0.N) (i) : iblk m c 0 t i = V m c main_v30 (ix1 0) := by
  unfold iblk
  generalize V m c = W
  have : ∀ k : S1.Idx, W main_v30 k = W main_v30 (ix1 0) := fun k => congrArg _ (one k)
  generalize W main_v30 (ix1 0) = z at *
  generalize hk : (W (Pipeline.arrRef spec0 0)) = w at *
  unfold View.read
  apply eq_of_heq
  refine (cast_heq _ _).trans ?_
  exact heq_of_eq (this _)
theorem blk0 (c : Dev nD) (t : Fin cfg0.N) : (iblk m c 0 t : FVec Ideal S1 .f32) = V m c main_v30 := by
  have h := blk0_at m c t
  generalize V m c main_v30 = W at *
  funext i
  exact (h i).trans (congrArg W (one i).symm)
theorem blk1_at (c : Dev nD) (t : Fin cfg0.N) (i) : iblk m c 1 t i = V m c main_v36 (ix1 0) := by
  unfold iblk
  generalize V m c = W
  have : ∀ k : S1.Idx, W main_v36 k = W main_v36 (ix1 0) := fun k => congrArg _ (one k)
  generalize W main_v36 (ix1 0) = z at *
  generalize hk : (W (Pipeline.arrRef spec0 1)) = w at *
  unfold View.read
  apply eq_of_heq
  refine (cast_heq _ _).trans ?_
  exact heq_of_eq (this _)
theorem blk1 (c : Dev nD) (t : Fin cfg0.N) : (iblk m c 1 t : FVec Ideal S1 .f32) = V m c main_v36 := by
  have h := blk1_at m c t
  generalize V m c main_v36 = W at *
  funext i
  exact (h i).trans (congrArg W (one i).symm)
theorem blk2 (c : Dev nD) (t : Fin cfg0.N) : (iblk m c 2 t : FVec Ideal S24x768x3072 .f32) = V m c main_v19 := by
  unfold iblk
  generalize V m c = W
  funext i
  blk_simp
  have e : (win0_2.blk t).view.emb i = i := by
    funext a
    apply Fin.ext
    blk_simp [idx t]
    have z : ∀ a : Fin 3, (![0, 0, 0] : Fin 3 → ℕ) a = 0 := by decide
    erw [z a, Nat.zero_mul, Nat.zero_add]
  exact congrArg (W main_v19) e
theorem blk3 (c : Dev nD) (t : Fin cfg0.N) : (iblk m c 3 t : FVec Ideal S24x768x8192 .f32) = V m c main_v24 := by
  unfold iblk
  generalize V m c = W
  funext i
  blk_simp
  have e : (win0_3.blk t).view.emb i = i := by
    funext a
    apply Fin.ext
    blk_simp [idx t]
    have z : ∀ a : Fin 3, (![0, 0, 0] : Fin 3 → ℕ) a = 0 := by decide
    erw [z a, Nat.zero_mul, Nat.zero_add]
  exact congrArg (W main_v24) e
theorem blk4 (c : Dev nD) (t : Fin cfg0.N) : (iblk m c 4 t : IVec S24x768x8192 8) = V m c main_arg3 := by
  unfold iblk
  generalize V m c = W
  funext i
  blk_simp
  have e : (win0_4.blk t).view.emb i = i := by
    funext a
    apply Fin.ext
    blk_simp [idx t]
    have z : ∀ a : Fin 3, (![0, 0, 0] : Fin 3 → ℕ) a = 0 := by decide
    erw [z a, Nat.zero_mul, Nat.zero_add]
  exact congrArg (W main_arg3) e

theorem arr5 (c : Dev nD) : (dats m 0 c).arrAt 5 cfg0.N = ValueX.cod (V m c main_v19) (xts m c) := by
  refine (dats m 0 c).arrAt_eq_of_after_last 5 t0_0 (by decide +kernel) _ fun j => ?_
  blk_simp
  rw [after0_5]
  unfold outsAt0
  frame_out
  simp only [read_unread_whole]
  refine congrFun (?_ : _ = ValueX.cod (V m c main_v19) (xts m c)) j
  unfold xts
  rw [blk0 m c t0_0, blk2 m c t0_0]
  generalize V m c = W
  rw [one (Shape.Idx.first _)]
  generalize W main_v30 (ix1 0) = z0
  generalize W main_v19 = z2
  rfl

theorem arr6 (c : Dev nD) : (dats m 0 c).arrAt 6 cfg0.N = ValueX.sc (V m c main_v19) (xts m c) := by
  refine (dats m 0 c).arrAt_eq_of_after_last 6 t0_0 (by decide +kernel) _ fun j => ?_
  blk_simp
  rw [after0_6]
  unfold outsAt0
  frame_out
  simp only [read_unread_whole]
  refine congrFun (?_ : _ = ValueX.sc (V m c main_v19) (xts m c)) j
  unfold xts
  rw [blk0 m c t0_0, blk2 m c t0_0]
  generalize V m c = W
  rw [one (Shape.Idx.first _)]
  generalize W main_v30 (ix1 0) = z0
  generalize W main_v19 = z2
  rfl

theorem arr7 (c : Dev nD) : (dats m 0 c).arrAt 7 cfg0.N = ValueX.val (V m c main_v19) (xts m c) := by
  refine (dats m 0 c).arrAt_eq_of_after_last 7 t0_0 (by decide +kernel) _ fun j => ?_
  blk_simp
  rw [after0_7]
  unfold outsAt0
  frame_out
  simp only [read_unread_whole]
  refine congrFun (?_ : _ = ValueX.val (V m c main_v19) (xts m c)) j
  unfold xts
  rw [blk0 m c t0_0, blk2 m c t0_0]
  generalize V m c = W
  rw [one (Shape.Idx.first _)]
  generalize W main_v30 (ix1 0) = z0
  generalize W main_v19 = z2
  rfl

theorem arr8 (c : Dev nD) : (dats m 0 c).arrAt 8 cfg0.N = ValueD.cod (V m c main_v24) (dts m c) (V m c main_arg3) := by
  refine (dats m 0 c).arrAt_eq_of_after_last 8 t0_0 (by decide +kernel) _ fun j => ?_
  blk_simp
  rw [after0_8]
  unfold outsAt0
  frame_out
  simp only [read_unread_whole]
  refine congrFun (?_ : _ = ValueD.cod (V m c main_v24) (dts m c) (V m c main_arg3)) j
  unfold dts
  rw [blk1 m c t0_0, blk3 m c t0_0, blk4 m c t0_0]
  generalize V m c = W
  rw [one (Shape.Idx.first _)]
  generalize W main_v36 (ix1 0) = z1
  generalize W main_v24 = z3
  generalize W main_arg3 = z4
  rfl

theorem arr9 (c : Dev nD) : (dats m 0 c).arrAt 9 cfg0.N = ValueD.sc (V m c main_v24) (dts m c) := by
  refine (dats m 0 c).arrAt_eq_of_after_last 9 t0_0 (by decide +kernel) _ fun j => ?_
  blk_simp
  rw [after0_9]
  unfold outsAt0
  frame_out
  simp only [read_unread_whole]
  refine congrFun (?_ : _ = ValueD.sc (V m c main_v24) (dts m c)) j
  unfold dts
  rw [blk1 m c t0_0, blk3 m c t0_0]
  generalize V m c = W
  rw [one (Shape.Idx.first _)]
  generalize W main_v36 (ix1 0) = z1
  generalize W main_v24 = z3
  rfl

theorem arr10 (c : Dev nD) : (dats m 0 c).arrAt 10 cfg0.N = ValueD.val (V m c main_v24) (dts m c) (V m c main_arg3) := by
  refine (dats m 0 c).arrAt_eq_of_after_last 10 t0_0 (by decide +kernel) _ fun j => ?_
  blk_simp
  rw [after0_10]
  unfold outsAt0
  frame_out
  simp only [read_unread_whole]
  refine congrFun (?_ : _ = ValueD.val (V m c main_v24) (dts m c) (V m c main_arg3)) j
  unfold dts
  rw [blk1 m c t0_0, blk3 m c t0_0, blk4 m c t0_0]
  generalize V m c = W
  rw [one (Shape.Idx.first _)]
  generalize W main_v36 (ix1 0) = z1
  generalize W main_v24 = z3
  generalize W main_arg3 = z4
  rfl

end Cert.ReferenceIdeal.Arr

end
-- ==== Proof.RefHost.lean ====
/- The reference's host values before its blocks. -/
module

public import proofs.«01_k».proof.Proof.RefArr
public import proofs.«01_k».proof.Proof.Tensor
public import Idealize.ShloMosaic.Lib.StableHlo.ReadAt

@[expose] public section

set_option maxRecDepth 16384

noncomputable section

namespace Cert.ReferenceIdeal.Host

open Idealize.ShloMosaic Idealize.ShloMosaic.TcCoe Idealize.ShloMosaic.Tactic
open Cert.ReferenceIdeal Cert.ReferenceIdeal.Gen Cert.Fp4

variable (m : (ℓ : Loc nD τ sig) → Buf (Elt Ideal) ℓ)

/-- The states between the stretches of host operations. -/
def R0 (c : Dev nD) : Valuation τ sig (Elt Ideal) := fun b => m (c, b)
def R1 (c : Dev nD) : Valuation τ sig (Elt Ideal) := StableHlo.after hostOps0 (R0 m c)
def R2 (c : Dev nD) : Valuation τ sig (Elt Ideal) := StableHlo.after hostOps0_1 (R1 m c)
def R3 (c : Dev nD) : Valuation τ sig (Elt Ideal) := StableHlo.after hostOps0_2 (R2 m c)
def R4 (c : Dev nD) : Valuation τ sig (Elt Ideal) := StableHlo.after hostOps0_3 (R3 m c)
def R5 (c : Dev nD) : Valuation τ sig (Elt Ideal) := StableHlo.after hostOps0_4 (R4 m c)
def R6 (c : Dev nD) : Valuation τ sig (Elt Ideal) := StableHlo.after hostOps0_5 (R5 m c)
def R7 (c : Dev nD) : Valuation τ sig (Elt Ideal) := StableHlo.after hostOps0_6 (R6 m c)

theorem V0_eq (c : Dev nD) : V0 m c = R7 m c := by
  simp only [V0, R7, R6, R5, R4, R3, R2, R1, List.flatten_cons, List.flatten_nil, List.append_nil, StableHlo.after_append]
  rfl

/-- The signs among the arguments. -/
def sg (c : Dev nD) (j : Fin 16) : EReal := (m ((c : Thread nD τ).loc main_arg2) : FVec Ideal S16 .f32) (ix1 j)

theorem v7 (c : Dev nD) (i : S16x16.Idx) : (R1 m c main_v7 : IVec S16x16 1) i = IntOp.cmpi CmpIPredicate.eq (par (i 0) (i 1)) 0#32 := by
  show (StableHlo.after hostOps0 (R0 m c) main_v7 : IVec S16x16 1) i = _
  after_reads_at
  rfl
theorem cst (c : Dev nD) : (R1 m c main_cst : FVec Ideal S_ .f32) ix0 = Ideal.ofBits .f32 0x3F800000#32 := by
  show (StableHlo.after hostOps0 (R0 m c) main_cst : FVec Ideal S_ .f32) ix0 = _
  generalize R0 m c = W
  after_reads_at
theorem cst_1 (c : Dev nD) : (R1 m c main_cst_1 : FVec Ideal S_ .f32) ix0 = Ideal.ofBits .f32 0xBF800000#32 := by
  show (StableHlo.after hostOps0 (R0 m c) main_cst_1 : FVec Ideal S_ .f32) ix0 = _
  generalize R0 m c = W
  after_reads_at

theorem one_bits : Ideal.ofBits .f32 0x3F800000#32 = (1 : EReal) := by
  rw [c1]; simp [Ideal.ofBits, Ideal.ieee, -EReal.coe_mul, -EReal.coe_one]; norm_num
theorem neg_one_bits : Ideal.ofBits .f32 0xBF800000#32 = (-1 : EReal) := by
  rw [c1]; simp [Ideal.ofBits, Ideal.ieee, -EReal.coe_mul, -EReal.coe_one]; norm_num

theorem v8 (c : Dev nD) (i : S16x16.Idx) : (R2 m c main_v8 : FVec Ideal S16x16 .f32) i = hs (i 0) (i 1) := by
  have h7 := v7 m c i
  have h1 := cst m c
  have h2 := cst_1 m c
  show (StableHlo.after hostOps0_1 (R1 m c) main_v8 : FVec Ideal S16x16 .f32) i = _
  generalize R1 m c = W at *
  after_reads_at
  rw [h7, h1, h2, one_bits, neg_one_bits]
  unfold hs
  rcases par_cases (i 0) (i 1) with h | h <;> rw [h] <;> rfl

theorem xx3 (c : Dev nD) (b : Fin 24) (k : Fin 48) (i : Fin 16) (d : Fin 3072) :
    (R3 m c main_v19 : FVec Ideal S24x768x3072 .f32) (ix3 b (inBlk k i) d) = TX (N := 3072) (sg m c) (m ((c : Thread nD τ).loc main_arg0)) b k i d := by
  have h8 := v8 m c
  have ha : R2 m c main_arg0 = m ((c : Thread nD τ).loc main_arg0) := by
    show StableHlo.after hostOps0_1 (StableHlo.after hostOps0 (R0 m c)) main_arg0 = _
    after_reads_simp
    rfl
  have hs' : R2 m c main_arg2 = m ((c : Thread nD τ).loc main_arg2) := by
    show StableHlo.after hostOps0_1 (StableHlo.after hostOps0 (R0 m c)) main_arg2 = _
    after_reads_simp
    rfl
  show (StableHlo.after hostOps0_2 (R2 m c) main_v19 : FVec Ideal S24x768x3072 .f32) (ix3 b (inBlk k i) d) = _
  generalize R2 m c = W at *
  after_reads_at
  unfold TX qh sg
  have h8' : ∀ a b, W main_v8 (ix2 a b) = hs a b := fun a b => h8 (ix2 a b)
  simp only [id, h8', ha, hs']
  refine Finset.sum_congr rfl fun j _ => ?_
  have e1 : (⟨(inBlk k i).val / 16 * 16 + j.val, by omega⟩ : Fin 768) = inBlk k j := Fin.ext (by simp only [inBlk]; omega)
  have e2 : (⟨(inBlk k i).val % 16, by omega⟩ : Fin 16) = i := Fin.ext (by simp only [inBlk]; omega)
  rw [e1, e2]

theorem xy3 (c : Dev nD) (b : Fin 24) (k : Fin 48) (i : Fin 16) (d : Fin 8192) :
    (R3 m c main_v24 : FVec Ideal S24x768x8192 .f32) (ix3 b (inBlk k i) d) = TX (N := 8192) (sg m c) (m ((c : Thread nD τ).loc main_arg1)) b k i d := by
  have h8 := v8 m c
  have ha : R2 m c main_arg1 = m ((c : Thread nD τ).loc main_arg1) := by
    show StableHlo.after hostOps0_1 (StableHlo.after hostOps0 (R0 m c)) main_arg1 = _
    after_reads_simp
    rfl
  have hs' : R2 m c main_arg2 = m ((c : Thread nD τ).loc main_arg2) := by
    show StableHlo.after hostOps0_1 (StableHlo.after hostOps0 (R0 m c)) main_arg2 = _
    after_reads_simp
    rfl
  show (StableHlo.after hostOps0_2 (R2 m c) main_v24 : FVec Ideal S24x768x8192 .f32) (ix3 b (inBlk k i) d) = _
  generalize R2 m c = W at *
  after_reads_at
  unfold TX qh sg
  have h8' : ∀ a b, W main_v8 (ix2 a b) = hs a b := fun a b => h8 (ix2 a b)
  simp only [id, h8', ha, hs']
  refine Finset.sum_congr rfl fun j _ => ?_
  have e1 : (⟨(inBlk k i).val / 16 * 16 + j.val, by omega⟩ : Fin 768) = inBlk k j := Fin.ext (by simp only [inBlk]; omega)
  have e2 : (⟨(inBlk k i).val % 16, by omega⟩ : Fin 16) = i := Fin.ext (by simp only [inBlk]; omega)
  rw [e1, e2]

end Cert.ReferenceIdeal.Host

end
-- ==== Proof.RefHost2.lean ====
/- The reference's tensor scales. -/
module

public import proofs.«01_k».proof.Proof.RefHost
public import proofs.«01_k».proof.Proof.Tensor
public import Idealize.ShloMosaic.Lib.StableHlo.ReadAt

@[expose] public section

set_option maxRecDepth 16384

noncomputable section

namespace Cert.ReferenceIdeal.Host

open Idealize.ShloMosaic Idealize.ShloMosaic.TcCoe Idealize.ShloMosaic.Tactic
open Cert.ReferenceIdeal Cert.ReferenceIdeal.Gen Cert.Fp4

variable (m : (ℓ : Loc nD τ sig) → Buf (Elt Ideal) ℓ)

theorem gt_zero (B : FVec Ideal S_ .f32) (A : EReal) (h : B ix0 = A) : cmpf .ogt B (constant (F := Ideal) S_ .f32 0#32) ix0 = BitVec.ofBool (decide (0 < A)) := by
  have e : cmpf .ogt B (constant (F := Ideal) S_ .f32 0#32) ix0 = Ideal.cmp .ogt (B ix0) (Ideal.ofBits .f32 0#32) := rfl
  have z : Ideal.ofBits .f32 0#32 = (0 : EReal) := by simp [Ideal.ofBits, Ideal.ieee]
  rw [e, h, z]
  simp only [Ideal.cmp_ogt]
  try rfl

/-- The state after the two transforms, within the third stretch. -/
def Rm (c : Dev nD) : Valuation τ sig (Elt Ideal) := StableHlo.after (List.take 17 hostOps0_2) (R2 m c)
theorem R3_eq (c : Dev nD) : R3 m c = StableHlo.after (List.drop 17 hostOps0_2) (Rm m c) := by
  unfold R3 Rm
  rw [← StableHlo.after_append, List.take_append_drop]
theorem v19_m (c : Dev nD) (b : Fin 24) (r : Fin 768) (d : Fin 3072) : (Rm m c main_v19 : FVec Ideal S24x768x3072 .f32) (ix3 b r d) =
    TX (N := 3072) (sg m c) (m ((c : Thread nD τ).loc main_arg0)) b ⟨r.val / 16, by omega⟩ ⟨r.val % 16, by omega⟩ d := by
  rw [← xx3 m c]
  have e : inBlk ⟨r.val / 16, by omega⟩ ⟨r.val % 16, by omega⟩ = r := Fin.ext (by simp only [inBlk]; omega)
  rw [e, R3_eq]
  generalize Rm m c = W at *
  simp only [hostOps0_2, List.drop_succ_cons, List.drop_zero]
  after_reads_at
/-- And the state after the largest magnitude of `x`. -/
def Rn (c : Dev nD) : Valuation τ sig (Elt Ideal) := StableHlo.after (List.take 3 (List.drop 17 hostOps0_2)) (Rm m c)
theorem R3_eq' (c : Dev nD) : R3 m c = StableHlo.after (List.drop 3 (List.drop 17 hostOps0_2)) (Rn m c) := by
  rw [R3_eq]
  unfold Rn
  rw [← StableHlo.after_append, List.take_append_drop]
theorem v26 (c : Dev nD) : (Rn m c main_v26 : FVec Ideal S_ .f32) ix0 = amr (N := 3072) (TX (N := 3072) (sg m c) (m ((c : Thread nD τ).loc main_arg0))) := by
  generalize hA : amr (N := 3072) (TX (N := 3072) (sg m c) (m ((c : Thread nD τ).loc main_arg0))) = A
  have hx := v19_m m c
  unfold Rn
  unfold amr at hA
  generalize Rm m c = W at *
  simp only [hostOps0_2, List.drop_succ_cons, List.drop_zero, List.take_succ_cons, List.take_zero]
  after_reads_at
  simp only [hx]
  exact hA
theorem v27 (c : Dev nD) : (R3 m c main_v27 : IVec S_ 1) ix0 = BitVec.ofBool (decide (0 < (amr (N := 3072) (TX (N := 3072) (sg m c) (m ((c : Thread nD τ).loc main_arg0)))))) := by
  have h := v26 m c
  generalize amr (N := 3072) (TX (N := 3072) (sg m c) (m ((c : Thread nD τ).loc main_arg0))) = A at *
  rw [R3_eq']
  generalize Rn m c = W at *
  simp only [hostOps0_2, List.drop_succ_cons, List.drop_zero, List.take_succ_cons, List.take_zero]
  after_reads_simp
  exact gt_zero _ _ h
theorem v28 (c : Dev nD) : (R3 m c main_v28 : FVec Ideal S_ .f32) ix0 = Ideal.div (amr (N := 3072) (TX (N := 3072) (sg m c) (m ((c : Thread nD τ).loc main_arg0)))) (Ideal.ofBits .f32 1160249344#32) := by
  have h := v26 m c
  generalize amr (N := 3072) (TX (N := 3072) (sg m c) (m ((c : Thread nD τ).loc main_arg0))) = A at *
  rw [R3_eq']
  generalize Rn m c = W at *
  simp only [hostOps0_2, List.drop_succ_cons, List.drop_zero, List.take_succ_cons, List.take_zero]
  after_reads_at
  rw [h]
theorem cst_6 (c : Dev nD) : (R3 m c main_cst_6 : FVec Ideal S_ .f32) ix0 = Ideal.ofBits .f32 0x3F800000#32 := by
  show (StableHlo.after hostOps0_2 (R2 m c) main_cst_6 : FVec Ideal S_ .f32) ix0 = _
  generalize R2 m c = W at *
  after_reads_at
theorem v29 (c : Dev nD) : (R4 m c main_v29 : FVec Ideal S_ .f32) ix0 = TS (amr (N := 3072) (TX (N := 3072) (sg m c) (m ((c : Thread nD τ).loc main_arg0)))) := by
  have e0 := cst_6 m c
  have e1 := v27 m c
  have e2 := v28 m c
  generalize amr (N := 3072) (TX (N := 3072) (sg m c) (m ((c : Thread nD τ).loc main_arg0))) = A at *
  show (StableHlo.after hostOps0_3 (R3 m c) main_v29 : FVec Ideal S_ .f32) ix0 = _
  generalize R3 m c = W at *
  after_reads_at
  show Scalar.select (W main_v27 ix0) (W main_v28 ix0) (W main_cst_6 ix0) = _
  rw [e0, e1, e2]
  exact sel_TS A
theorem v30 (c : Dev nD) (i) : (R5 m c main_v30 : FVec Ideal S1 .f32) i = TS (amr (N := 3072) (TX (N := 3072) (sg m c) (m ((c : Thread nD τ).loc main_arg0)))) := by
  have e3 := v29 m c
  generalize amr (N := 3072) (TX (N := 3072) (sg m c) (m ((c : Thread nD τ).loc main_arg0))) = A at *
  show (StableHlo.after hostOps0_4 (R4 m c) main_v30 : FVec Ideal S1 .f32) i = _
  generalize R4 m c = W at *
  after_reads_at
  exact e3

theorem v24_4 (c : Dev nD) (b : Fin 24) (r : Fin 768) (d : Fin 8192) : (R4 m c main_v24 : FVec Ideal S24x768x8192 .f32) (ix3 b r d) =
    TX (N := 8192) (sg m c) (m ((c : Thread nD τ).loc main_arg1)) b ⟨r.val / 16, by omega⟩ ⟨r.val % 16, by omega⟩ d := by
  rw [← xy3 m c]
  have e : inBlk ⟨r.val / 16, by omega⟩ ⟨r.val % 16, by omega⟩ = r := Fin.ext (by simp only [inBlk]; omega)
  rw [e]
  show (StableHlo.after hostOps0_3 (R3 m c) main_v24 : FVec Ideal S24x768x8192 .f32) (ix3 b r d) = _
  generalize R3 m c = W at *
  after_reads_at

/-- The state after the largest magnitude of `dy`. -/
def Rp (c : Dev nD) : Valuation τ sig (Elt Ideal) := StableHlo.after (List.take 4 hostOps0_4) (R4 m c)
theorem R5_eq' (c : Dev nD) : R5 m c = StableHlo.after (List.drop 4 hostOps0_4) (Rp m c) := by
  unfold R5 Rp
  rw [← StableHlo.after_append, List.take_append_drop]
theorem v32 (c : Dev nD) : (Rp m c main_v32 : FVec Ideal S_ .f32) ix0 = amr (N := 8192) (TX (N := 8192) (sg m c) (m ((c : Thread nD τ).loc main_arg1))) := by
  generalize hA : amr (N := 8192) (TX (N := 8192) (sg m c) (m ((c : Thread nD τ).loc main_arg1))) = A
  have hx := v24_4 m c
  unfold Rp
  unfold amr at hA
  generalize R4 m c = W at *
  simp only [hostOps0_4, List.drop_succ_cons, List.drop_zero, List.take_succ_cons, List.take_zero]
  after_reads_at
  simp only [hx]
  exact hA
theorem v33 (c : Dev nD) : (R5 m c main_v33 : IVec S_ 1) ix0 = BitVec.ofBool (decide (0 < (amr (N := 8192) (TX (N := 8192) (sg m c) (m ((c : Thread nD τ).loc main_arg1)))))) := by
  have h := v32 m c
  generalize amr (N := 8192) (TX (N := 8192) (sg m c) (m ((c : Thread nD τ).loc main_arg1))) = A at *
  rw [R5_eq']
  generalize Rp m c = W at *
  simp only [hostOps0_4, List.drop_succ_cons, List.drop_zero, List.take_succ_cons, List.take_zero]
  after_reads_simp
  exact gt_zero _ _ h
theorem v34 (c : Dev nD) : (R5 m c main_v34 : FVec Ideal S_ .f32) ix0 = Ideal.div (amr (N := 8192) (TX (N := 8192) (sg m c) (m ((c : Thread nD τ).loc main_arg1)))) (Ideal.ofBits .f32 1160249344#32) := by
  have h := v32 m c
  generalize amr (N := 8192) (TX (N := 8192) (sg m c) (m ((c : Thread nD τ).loc main_arg1))) = A at *
  rw [R5_eq']
  generalize Rp m c = W at *
  simp only [hostOps0_4, List.drop_succ_cons, List.drop_zero, List.take_succ_cons, List.take_zero]
  after_reads_at
  rw [h]
theorem cst_10 (c : Dev nD) : (R5 m c main_cst_10 : FVec Ideal S_ .f32) ix0 = Ideal.ofBits .f32 0x3F800000#32 := by
  show (StableHlo.after hostOps0_4 (R4 m c) main_cst_10 : FVec Ideal S_ .f32) ix0 = _
  generalize R4 m c = W at *
  after_reads_at
theorem v35 (c : Dev nD) : (R6 m c main_v35 : FVec Ideal S_ .f32) ix0 = TS (amr (N := 8192) (TX (N := 8192) (sg m c) (m ((c : Thread nD τ).loc main_arg1)))) := by
  have e0 := cst_10 m c
  have e1 := v33 m c
  have e2 := v34 m c
  generalize amr (N := 8192) (TX (N := 8192) (sg m c) (m ((c : Thread nD τ).loc main_arg1))) = A at *
  show (StableHlo.after hostOps0_5 (R5 m c) main_v35 : FVec Ideal S_ .f32) ix0 = _
  generalize R5 m c = W at *
  after_reads_at
  show Scalar.select (W main_v33 ix0) (W main_v34 ix0) (W main_cst_10 ix0) = _
  rw [e0, e1, e2]
  exact sel_TS A
theorem v36 (c : Dev nD) (i) : (R7 m c main_v36 : FVec Ideal S1 .f32) i = TS (amr (N := 8192) (TX (N := 8192) (sg m c) (m ((c : Thread nD τ).loc main_arg1)))) := by
  have e3 := v35 m c
  generalize amr (N := 8192) (TX (N := 8192) (sg m c) (m ((c : Thread nD τ).loc main_arg1))) = A at *
  show (StableHlo.after hostOps0_6 (R6 m c) main_v36 : FVec Ideal S1 .f32) i = _
  generalize R6 m c = W at *
  after_reads_at
  exact e3

/-! ## Where the blocks begin -/

theorem V_x (c : Dev nD) (b : Fin 24) (k : Fin 48) (i : Fin 16) (d : Fin 3072) : (V m c main_v19 : FVec Ideal S24x768x3072 .f32) (ix3 b (inBlk k i) d) =
    TX (N := 3072) (sg m c) (m ((c : Thread nD τ).loc main_arg0)) b k i d := by
  rw [← xx3 m c]
  show (V0 m c main_v19 : FVec Ideal S24x768x3072 .f32) _ = _
  rw [V0_eq]
  show (StableHlo.after hostOps0_6 (StableHlo.after hostOps0_5 (StableHlo.after hostOps0_4 (StableHlo.after hostOps0_3 (R3 m c)))) main_v19 : FVec Ideal S24x768x3072 .f32) _ = _
  generalize R3 m c = W at *
  after_reads_at
theorem V_y (c : Dev nD) (b : Fin 24) (k : Fin 48) (i : Fin 16) (d : Fin 8192) : (V m c main_v24 : FVec Ideal S24x768x8192 .f32) (ix3 b (inBlk k i) d) =
    TX (N := 8192) (sg m c) (m ((c : Thread nD τ).loc main_arg1)) b k i d := by
  rw [← xy3 m c]
  show (V0 m c main_v24 : FVec Ideal S24x768x8192 .f32) _ = _
  rw [V0_eq]
  show (StableHlo.after hostOps0_6 (StableHlo.after hostOps0_5 (StableHlo.after hostOps0_4 (StableHlo.after hostOps0_3 (R3 m c)))) main_v24 : FVec Ideal S24x768x8192 .f32) _ = _
  generalize R3 m c = W at *
  after_reads_at
theorem V_arg3 (c : Dev nD) : V m c main_arg3 = m ((c : Thread nD τ).loc main_arg3) := by
  show V0 m c main_arg3 = _
  rw [V0_eq]
  unfold R7 R6 R5 R4 R3 R2 R1
  after_reads_simp
  rfl
theorem V_xts (c : Dev nD) (i) : (V m c main_v30 : FVec Ideal S1 .f32) i = TS (amr (N := 3072) (TX (N := 3072) (sg m c) (m ((c : Thread nD τ).loc main_arg0)))) := by
  rw [← v30 m c i]
  show (V0 m c main_v30 : FVec Ideal S1 .f32) i = _
  rw [V0_eq]
  show (StableHlo.after hostOps0_6 (StableHlo.after hostOps0_5 (R5 m c)) main_v30 : FVec Ideal S1 .f32) i = _
  generalize R5 m c = W at *
  after_reads_at
theorem V_dts (c : Dev nD) (i) : (V m c main_v36 : FVec Ideal S1 .f32) i = TS (amr (N := 8192) (TX (N := 8192) (sg m c) (m ((c : Thread nD τ).loc main_arg1)))) := by
  rw [← v36 m c i]
  show (V0 m c main_v36 : FVec Ideal S1 .f32) i = _
  rw [V0_eq]

end Cert.ReferenceIdeal.Host

end
-- ==== Proof.Equal.lean ====
/- The kernel's results are the reference's. -/
module

public import proofs.«01_k».proof.Proof.KernelValue
public import proofs.«01_k».proof.Proof.Reindex
public import proofs.«01_k».proof.Proof.RefHost2

@[expose] public section

set_option maxRecDepth 16384

noncomputable section

namespace Cert.Equal

open Idealize.ShloMosaic Idealize.ShloMosaic.TcCoe Idealize.ShloMosaic.Tactic
open Cert.Fp4

/-- The two programs' arguments at a device. -/
structure Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop where
  a0 : (m' ((c.tc : Thread ReferenceIdeal.nD ReferenceIdeal.τ).loc ReferenceIdeal.main_arg0) : FVec Ideal (sh3 24 768 3072) .bf16) = m ((c.tc : Thread KernelIdeal.nD KernelIdeal.τ).loc KernelIdeal.main_arg0)
  a1 : (m' ((c.tc : Thread ReferenceIdeal.nD ReferenceIdeal.τ).loc ReferenceIdeal.main_arg1) : FVec Ideal (sh3 24 768 8192) .bf16) = m ((c.tc : Thread KernelIdeal.nD KernelIdeal.τ).loc KernelIdeal.main_arg1)
  a2 : (m' ((c.tc : Thread ReferenceIdeal.nD ReferenceIdeal.τ).loc ReferenceIdeal.main_arg2) : FVec Ideal ReferenceIdeal.S16 .f32) = m ((c.tc : Thread KernelIdeal.nD KernelIdeal.τ).loc KernelIdeal.main_arg2)
  a3 : (m' ((c.tc : Thread ReferenceIdeal.nD ReferenceIdeal.τ).loc ReferenceIdeal.main_arg3) : IVec ReferenceIdeal.S24x768x8192 8) = m ((c.tc : Thread KernelIdeal.nD KernelIdeal.τ).loc KernelIdeal.main_arg3)

theorem cover3 {a b c : ℕ} (j : (sh3 a b c).Idx) : ∃ (x : Fin a) (y : Fin b) (z : Fin c), j = ix3 x y z := ⟨j 0, j 1, j 2, by
  funext (k : Fin 3)
  match k with
  | 0 => rfl
  | 1 => rfl
  | 2 => rfl⟩
theorem cover2 {a b : ℕ} (j : (sh a b).Idx) : ∃ (x : Fin a) (y : Fin b), j = ix2 x y := ⟨j 0, j 1, by
  funext (k : Fin 2)
  match k with
  | 0 => rfl
  | 1 => rfl⟩

variable {m : (ℓ : Loc KernelIdeal.nD KernelIdeal.τ KernelIdeal.sig) → Buf (Elt Ideal) ℓ} (ρ : Dev KernelIdeal.nD → PrngReg)
  {m' : (ℓ : Loc ReferenceIdeal.nD ReferenceIdeal.τ ReferenceIdeal.sig) → Buf (Elt Ideal) ℓ} {c : Dev KernelIdeal.nD} (h : Agree m m' c)
include h

theorem sg_eq : ReferenceIdeal.Host.sg m' c = KernelIdeal.Host.sg m c := funext fun j => congrFun h.a2 (ix1 j)

theorem gx_eq : TX (N := 3072) (ReferenceIdeal.Host.sg m' c) (m' ((c : Thread ReferenceIdeal.nD ReferenceIdeal.τ).loc ReferenceIdeal.main_arg0)) = KernelIdeal.Host.gx m c := by
  rw [sg_eq h]
  exact congrArg (TX (N := 3072) (KernelIdeal.Host.sg m c)) h.a0
theorem gy_eq : TX (N := 8192) (ReferenceIdeal.Host.sg m' c) (m' ((c : Thread ReferenceIdeal.nD ReferenceIdeal.τ).loc ReferenceIdeal.main_arg1)) = KernelIdeal.Host.gy m c := by
  rw [sg_eq h]
  exact congrArg (TX (N := 8192) (KernelIdeal.Host.sg m c)) h.a1

/-! ## What the reference's blocks start from -/

theorem hx (b k i) (d : Fin 3072) : (ReferenceIdeal.Gen.V m' c ReferenceIdeal.main_v19 : FVec Ideal ReferenceIdeal.S24x768x3072 .f32) (ix3 b (inBlk k i) d) =
    KernelIdeal.Quant2.xh (KernelIdeal.Gen.V33 m ρ) c (ix2 (rowOf (nb b k) i) d) :=
  (ReferenceIdeal.Host.V_x m' c b k i d).trans ((congrFun (congrFun (congrFun (congrFun (gx_eq h) b) k) i) d).trans (KernelIdeal.Host.perm_x m ρ c b k i d).symm)
theorem hy (b k i) (d : Fin 8192) : (ReferenceIdeal.Gen.V m' c ReferenceIdeal.main_v24 : FVec Ideal ReferenceIdeal.S24x768x8192 .f32) (ix3 b (inBlk k i) d) =
    KernelIdeal.Quant3.xh (KernelIdeal.Gen.V34 m ρ) c (ix2 (rowOf (nb b k) i) d) :=
  (ReferenceIdeal.Host.V_y m' c b k i d).trans ((congrFun (congrFun (congrFun (congrFun (gy_eq h) b) k) i) d).trans (KernelIdeal.Host.perm_y m ρ c b k i d).symm)
theorem hb (b k i) (d : Fin 8192) : ((ReferenceIdeal.Gen.V m' c ReferenceIdeal.main_arg3 : IVec ReferenceIdeal.S24x768x8192 8) (ix3 b (inBlk k i) d)).setWidth 32 =
    KernelIdeal.Quant3.bb (KernelIdeal.Gen.V34 m ρ) c (ix2 (rowOf (nb b k) i) d) :=
  (congrArg (BitVec.setWidth 32) (congrFun ((ReferenceIdeal.Host.V_arg3 m' c).trans h.a3) (ix3 b (inBlk k i) d))).trans (KernelIdeal.Host.bits m ρ c b k i d)
theorem xt (i) : (ReferenceIdeal.Gen.V m' c ReferenceIdeal.main_v30 : FVec Ideal ReferenceIdeal.S1 .f32) i = TS (amr (KernelIdeal.Host.gx m c)) := by
  rw [ReferenceIdeal.Host.V_xts m' c i, gx_eq h]
theorem yt (i) : (ReferenceIdeal.Gen.V m' c ReferenceIdeal.main_v36 : FVec Ideal ReferenceIdeal.S1 .f32) i = TS (amr (KernelIdeal.Host.gy m c)) := by
  rw [ReferenceIdeal.Host.V_dts m' c i, gy_eq h]
theorem xts : ReferenceIdeal.Arr.xts m' c = KernelIdeal.Quant2.ts (KernelIdeal.Gen.V33 m ρ) c := (xt h _).trans (KernelIdeal.Host.ts2 m ρ c).symm
theorem yts : ReferenceIdeal.Arr.dts m' c = KernelIdeal.Quant3.ts (KernelIdeal.Gen.V34 m ρ) c := (yt h _).trans (KernelIdeal.Host.ts3 m ρ c).symm
theorem xne : ReferenceIdeal.Arr.xts m' c ≠ 0 := by
  rw [show ReferenceIdeal.Arr.xts m' c = _ from xt h _]
  exact TS_ne _
theorem yne : ReferenceIdeal.Arr.dts m' c ≠ 0 := by
  rw [show ReferenceIdeal.Arr.dts m' c = _ from yt h _]
  exact TS_ne _

/-! ## Result by result -/

theorem codes_x : ((ReferenceIdeal.Gen.dats m' 0 c).arrAt 5 ReferenceIdeal.cfg0.N : IVec ReferenceIdeal.S24x384x3072 8) = KernelIdeal.Gen.W38 m ρ c KernelIdeal.main_v108 := by
  refine (ReferenceIdeal.Arr.arr5 m' c).trans (funext fun j => ?_)
  obtain ⟨x, y, z, rfl⟩ := cover3 j
  refine Eq.trans ?_ (KernelIdeal.Host.out_xc m ρ c x y z).symm
  refine (ReferenceIdeal.ValueX.codes _ _ _ (hx ρ h) (xne h) x y z).trans ?_
  rw [xts ρ h]
theorem scales_x : ((ReferenceIdeal.Gen.dats m' 0 c).arrAt 6 ReferenceIdeal.cfg0.N : FVec Ideal ReferenceIdeal.S24x48x3072 .fp8e4m3) = KernelIdeal.Gen.W38 m ρ c KernelIdeal.main_v109 := by
  refine (ReferenceIdeal.Arr.arr6 m' c).trans (funext fun j => ?_)
  obtain ⟨x, y, z, rfl⟩ := cover3 j
  refine Eq.trans ?_ (KernelIdeal.Host.out_xs m ρ c x y z).symm
  refine (ReferenceIdeal.ValueX.scale _ (ReferenceIdeal.Arr.xts m' c) _ (hx ρ h) x y z).trans ?_
  rw [xts ρ h]
theorem codes_y : ((ReferenceIdeal.Gen.dats m' 0 c).arrAt 8 ReferenceIdeal.cfg0.N : IVec ReferenceIdeal.S24x384x8192 8) = KernelIdeal.Gen.W38 m ρ c KernelIdeal.main_v110 := by
  refine (ReferenceIdeal.Arr.arr8 m' c).trans (funext fun j => ?_)
  obtain ⟨x, y, z, rfl⟩ := cover3 j
  refine Eq.trans ?_ (KernelIdeal.Host.out_yc m ρ c x y z).symm
  refine (ReferenceIdeal.ValueD.codes _ _ _ _ _ (hy ρ h) (hb ρ h) (yne h) x y z).trans ?_
  rw [yts ρ h]
theorem scales_y : ((ReferenceIdeal.Gen.dats m' 0 c).arrAt 9 ReferenceIdeal.cfg0.N : FVec Ideal ReferenceIdeal.S24x48x8192 .fp8e4m3) = KernelIdeal.Gen.W38 m ρ c KernelIdeal.main_v111 := by
  refine (ReferenceIdeal.Arr.arr9 m' c).trans (funext fun j => ?_)
  obtain ⟨x, y, z, rfl⟩ := cover3 j
  refine Eq.trans ?_ (KernelIdeal.Host.out_ys m ρ c x y z).symm
  refine (ReferenceIdeal.ValueD.scale _ (ReferenceIdeal.Arr.dts m' c) _ (hy ρ h) x y z).trans ?_
  rw [yts ρ h]
theorem tensor_x : (ReferenceIdeal.Gen.V m' c ReferenceIdeal.main_v30 : FVec Ideal ReferenceIdeal.S1 .f32) = KernelIdeal.Gen.W38 m ρ c KernelIdeal.main_v94 :=
  funext fun i => (xt h i).trans (KernelIdeal.Host.out_xt m ρ c i).symm
theorem tensor_y : (ReferenceIdeal.Gen.V m' c ReferenceIdeal.main_v36 : FVec Ideal ReferenceIdeal.S1 .f32) = KernelIdeal.Gen.W38 m ρ c KernelIdeal.main_v100 :=
  funext fun i => (yt h i).trans (KernelIdeal.Host.out_yt m ρ c i).symm

theorem grad : (ReferenceIdeal.Value.DW (F := Ideal) (ReferenceIdeal.Gen.V m' c ReferenceIdeal.main_v30) (ReferenceIdeal.Gen.V m' c ReferenceIdeal.main_v36)
    ((ReferenceIdeal.Gen.dats m' 0 c).arrAt 10 ReferenceIdeal.cfg0.N) ((ReferenceIdeal.Gen.dats m' 0 c).arrAt 7 ReferenceIdeal.cfg0.N) : FVec Ideal ReferenceIdeal.S8192x3072 .f32) = KernelIdeal.Gen.W38 m ρ c KernelIdeal.main_v107 := by
  rw [ReferenceIdeal.Arr.arr10, ReferenceIdeal.Arr.arr7]
  funext j
  obtain ⟨x, y, rfl⟩ := cover2 j
  refine Eq.trans ?_ (KernelIdeal.Host.out_dw m ρ c x y).symm
  rw [← xt h (ix1 0), ← yt h (ix1 0)]
  refine ReferenceIdeal.Value.dw_at _ _ _ _ (KernelIdeal.Host.dqy m ρ c) (KernelIdeal.Host.dqx m ρ c) ?_ ?_ ?_ ?_ x y
  · intro b k p d
    rw [ReferenceIdeal.ValueD.vals0 _ _ _ _ _ (hy ρ h) (hb ρ h) (yne h) b k p d, yts ρ h]
    rfl
  · intro b k p d
    rw [ReferenceIdeal.ValueD.vals1 _ _ _ _ _ (hy ρ h) (hb ρ h) (yne h) b k p d, yts ρ h]
    rfl
  · intro b k p d
    rw [ReferenceIdeal.ValueX.vals0 _ _ _ (hx ρ h) (xne h) b k p d, xts ρ h]
    rfl
  · intro b k p d
    rw [ReferenceIdeal.ValueX.vals1 _ _ _ (hx ρ h) (xne h) b k p d, xts ρ h]
    rfl

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.SL.Sem Cert.Kernel

theorem value : Cert.algebraic_KernelIdeal_ReferenceIdeal (hKernelIdeal := Cert.KernelIdeal.Gen.facts) (hReferenceIdeal := Cert.ReferenceIdeal.Gen.facts) := by
  intro m g m' g' _ hm
  have ag : ∀ c, Cert.Equal.Agree m m' c := fun c => ⟨(hm c).1, (hm c).2.1, (hm c).2.2.1, (hm c).2.2.2⟩
  refine ⟨fun c => Cert.KernelIdeal.Gen.W38 m g c (Proc.devRef .tc Cert.KernelIdeal.main_v107), fun c => Cert.KernelIdeal.Gen.W38 m g c (Proc.devRef .tc Cert.KernelIdeal.main_v108),
    fun c => Cert.KernelIdeal.Gen.W38 m g c (Proc.devRef .tc Cert.KernelIdeal.main_v109), fun c => Cert.KernelIdeal.Gen.W38 m g c (Proc.devRef .tc Cert.KernelIdeal.main_v94),
    fun c => Cert.KernelIdeal.Gen.W38 m g c (Proc.devRef .tc Cert.KernelIdeal.main_v110), fun c => Cert.KernelIdeal.Gen.W38 m g c (Proc.devRef .tc Cert.KernelIdeal.main_v111),
    fun c => Cert.KernelIdeal.Gen.W38 m g c (Proc.devRef .tc Cert.KernelIdeal.main_v100), ?_, ?_⟩
  · refine (θ_run Cert.KernelIdeal.defs _ _).mono (fun r h c => ?_) (Cert.KernelIdeal.Gen.run m g)
    have q : ∀ b, b ∈ Pipeline.ucRefs Cert.KernelIdeal.τ Cert.KernelIdeal.sig → r.2.mem ((c.tc : Thread Cert.KernelIdeal.nD Cert.KernelIdeal.τ).1, b) = Cert.KernelIdeal.Gen.W38 m g c b := fun b hb => h c b hb
    exact ⟨q _ (Cert.KernelIdeal.Gen.mem_uc Cert.KernelIdeal.main_v107 (by decide)), q _ (Cert.KernelIdeal.Gen.mem_uc Cert.KernelIdeal.main_v108 (by decide)),
      q _ (Cert.KernelIdeal.Gen.mem_uc Cert.KernelIdeal.main_v109 (by decide)), q _ (Cert.KernelIdeal.Gen.mem_uc Cert.KernelIdeal.main_v94 (by decide)),
      q _ (Cert.KernelIdeal.Gen.mem_uc Cert.KernelIdeal.main_v110 (by decide)), q _ (Cert.KernelIdeal.Gen.mem_uc Cert.KernelIdeal.main_v111 (by decide)),
      q _ (Cert.KernelIdeal.Gen.mem_uc Cert.KernelIdeal.main_v100 (by decide)),
      (q _ (Cert.KernelIdeal.Gen.mem_uc Cert.KernelIdeal.main_arg0 (by decide))).trans (Cert.KernelIdeal.Gen.W38_main_arg0 m g c),
      (q _ (Cert.KernelIdeal.Gen.mem_uc Cert.KernelIdeal.main_arg1 (by decide))).trans (Cert.KernelIdeal.Gen.W38_main_arg1 m g c),
      (q _ (Cert.KernelIdeal.Gen.mem_uc Cert.KernelIdeal.main_arg2 (by decide))).trans (Cert.KernelIdeal.Gen.W38_main_arg2 m g c),
      (q _ (Cert.KernelIdeal.Gen.mem_uc Cert.KernelIdeal.main_arg3 (by decide))).trans (Cert.KernelIdeal.Gen.W38_main_arg3 m g c)⟩
  · refine (θ_run Cert.ReferenceIdeal.defs _ _).mono (fun r h c => ?_) (Cert.ReferenceIdeal.Value.run m' g')
    have p := h c
    exact ⟨p.dw.trans (Cert.Equal.grad g (ag c)), p.xc.trans (Cert.Equal.codes_x g (ag c)), p.xs.trans (Cert.Equal.scales_x g (ag c)), p.xt.trans (Cert.Equal.tensor_x g (ag c)),
      p.dc.trans (Cert.Equal.codes_y g (ag c)), p.ds.trans (Cert.Equal.scales_y g (ag c)), p.dt.trans (Cert.Equal.tensor_y g (ag c)), p.a0, p.a1, p.a2, p.a3⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, value⟩

end Cert.Proof

end
